-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_is_zero_between [hPre_mask_is_zero_between : Cert.Pre_mask_is_zero_between.Facts] (m : (ℓ : Loc Cert.KernelIdeal.nD Cert.KernelIdeal.τ Cert.KernelIdeal.sig) → Buf (Elt Ideal) ℓ) : Prop :=
  ∀ c : Dev Cert.KernelIdeal.nD,
    (Cert.Pre_mask_is_zero_between.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_is_zero_between [hPre_mask_is_zero_between : Cert.Pre_mask_is_zero_between.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_is_zero_between.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_mask_is_zero_between [hKernelIdeal : Cert.KernelIdeal.Facts] [hPre_mask_is_zero_between : Cert.Pre_mask_is_zero_between.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_is_zero_between m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_mask_is_zero_between [hReferenceIdeal : Cert.ReferenceIdeal.Facts] [hPre_mask_is_zero_between : Cert.Pre_mask_is_zero_between.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_is_zero_between m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "nln2" .f32 0xBF317218#32 ((-(Real.log 2) : ℝ) : EReal)

def algebraic_KernelIdeal_ReferenceIdeal_pre_mask_is_zero_between [hKernelIdeal : Cert.KernelIdeal.Facts] [hReferenceIdeal : Cert.ReferenceIdeal.Facts] [hPre_mask_is_zero_between : Cert.Pre_mask_is_zero_between.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_is_zero_between m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_mask_is_zero_between : Cert.Pre_mask_is_zero_between.Facts),
    quiescent_Kernel (hKernel := hKernel)
    ∧ quiescent_KernelIdeal (hKernelIdeal := hKernelIdeal)
    ∧ quiescent_KernelIdeal_pre_mask_is_zero_between (hKernelIdeal := hKernelIdeal) (hPre_mask_is_zero_between := hPre_mask_is_zero_between)
    ∧ quiescent_ReferenceIdeal (hReferenceIdeal := hReferenceIdeal)
    ∧ quiescent_ReferenceIdeal_pre_mask_is_zero_between (hReferenceIdeal := hReferenceIdeal) (hPre_mask_is_zero_between := hPre_mask_is_zero_between)
    ∧ preserves_Kernel_KernelIdeal
    ∧ algebraic_KernelIdeal_ReferenceIdeal_pre_mask_is_zero_between (hKernelIdeal := hKernelIdeal) (hReferenceIdeal := hReferenceIdeal) (hPre_mask_is_zero_between := hPre_mask_is_zero_between)
-- ==== Pre_mask_is_zero_between.lean ====
abbrev S64x100000 : Shape := ⟨2, ![64, 100000]⟩
abbrev S100000 : Shape := ⟨1, ![100000]⟩
abbrev S76800 : Shape := ⟨1, ![76800]⟩
abbrev S_ : Shape := ⟨0, ![]⟩

class Facts : Prop where
  slices_S100000_S76800_12800 : S100000.Slices ![12800] S76800
  bcast_S_S76800 : S_.BroadcastsInDim S76800 (![] : Fin 0 → Fin S76800.rank)

variable [Facts]

def fn {F : FTy → Type} [FloatOps F] (main_arg0 : FVec F S64x100000 .f32) (main_arg1 : FVec F S100000 .f32) : IVec S76800 1 :=
  let main_v0 : FVec F S76800 .f32 := (extractStridedSlice S76800 ![12800] · slices_S100000_S76800_12800) main_arg1
  let main_cst : FVec F S_ .f32 := constant S_ .f32 0x00000000#32
  let main_v1 : FVec F S76800 .f32 := broadcastInDim S76800 ![] bcast_S_S76800 main_cst
  let main_v2 : IVec S76800 1 := cmpf .oeq main_v0 main_v1
  main_v2
-- ==== Kernel.lean ====
abbrev S64x100000 : Shape := ⟨2, ![64, 100000]⟩
abbrev S100000 : Shape := ⟨1, ![100000]⟩
abbrev S1x100000 : Shape := ⟨2, ![1, 100000]⟩
abbrev S_ : Shape := ⟨0, ![]⟩
abbrev S1x102400 : Shape := ⟨2, ![1, 102400]⟩
abbrev S64x1 : Shape := ⟨2, ![64, 1]⟩
abbrev S64x12800 : Shape := ⟨2, ![64, 12800]⟩
abbrev S1x12800 : Shape := ⟨2, ![1, 12800]⟩
abbrev S64x1280 : Shape := ⟨2, ![64, 1280]⟩
abbrev S1x1280 : Shape := ⟨2, ![1, 1280]⟩
abbrev S64 : Shape := ⟨1, ![64]⟩

abbrev nBuf : Space → Nat
  | .hbm => 9
  | .vmem => 9
  | .smem => 0
  | _ => 0

abbrev bufTy : (tb : Table) → Fin (tcTables nBuf tb) → BufTy
  | .hbm, ⟨0, _⟩ => ⟨S64x100000, .f32⟩
  | .hbm, ⟨1, _⟩ => ⟨S100000, .f32⟩
  | .hbm, ⟨2, _⟩ => ⟨S1x100000, .f32⟩
  | .hbm, ⟨3, _⟩ => ⟨S_, .f32⟩
  | .hbm, ⟨4, _⟩ => ⟨S_, .f32⟩
  | .hbm, ⟨5, _⟩ => ⟨S1x102400, .f32⟩
  | .hbm, ⟨6, _⟩ => ⟨S64x1, .i32⟩
  | .hbm, ⟨7, _⟩ => ⟨S64x100000, .f32⟩
  | .hbm, ⟨8, _⟩ => ⟨S64, .i32⟩
  | .local _ .vmem, ⟨0, _⟩ => ⟨S64x12800, .f32⟩
  | .local _ .vmem, ⟨1, _⟩ => ⟨S64x12800, .f32⟩
  | .local _ .vmem, ⟨2, _⟩ => ⟨S1x12800, .f32⟩
  | .local _ .vmem, ⟨3, _⟩ => ⟨S1x12800, .f32⟩
  | .local _ .vmem, ⟨4, _⟩ => ⟨S64x1, .i32⟩
  | .local _ .vmem, ⟨5, _⟩ => ⟨S64x12800, .f32⟩
  | .local _ .vmem, ⟨6, _⟩ => ⟨S64x12800, .f32⟩
  | .local _ .vmem, ⟨7, _⟩ => ⟨S64x1280, .f32⟩
  | .local _ .vmem, ⟨8, _⟩ => ⟨S64x1280, .i32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_1 : BitVec 32 := 0#32
  let v11 : BitVec 1 := Scalar.cmpi .eq arg0 c0_i32_1
  let c7_i32 : BitVec 32 := 7#32
  let v12 : BitVec 1 := Scalar.cmpi .eq arg0 c7_i32
  let v13 : BitVec 1 := Scalar.ori v11 v12
  let v14 : BitVec 32 := Scalar.extui v13
  let c0_i32_2 : BitVec 32 := 0#32
  let v15 : BitVec 1 := Scalar.cmpi .ne v14 c0_i32_2
  v15

@[reducible] def k0_t1_loop : Scf.Loop 32 :=
  let c0_i32_6 : BitVec 32 := 0#32
  let c10_i32 : BitVec 32 := 10#32
  let v22 : BitVec 32 := Scalar.addi c0_i32_6 c10_i32
  let c1_i32 : BitVec 32 := 1#32
  ⟨c0_i32_6, v22, c1_i32⟩
def k0_off1 (k0_t1 : Fin k0_t1_loop.trips) : Fin 2 → Nat :=
  let c0 : Index := 0#32
  let c0_i32_6 : BitVec 32 := 0#32
  let c1_i32 : BitVec 32 := 1#32
  let arg7 : BitVec 32 := Scf.iv c0_i32_6 c1_i32 k0_t1
  let c1280_i32 : BitVec 32 := 1280#32
  let v23 : BitVec 32 := Scalar.muli arg7 c1280_i32
  let v24 : Index := Scalar.indexCast v23
  ![0, v24.toNat]
def k0_off2 (k0_t1 : Fin k0_t1_loop.trips) : Fin 2 → Nat :=
  let c0_8 : Index := 0#32
  let c0_i32_6 : BitVec 32 := 0#32
  let c1_i32 : BitVec 32 := 1#32
  let arg7 : BitVec 32 := Scf.iv c0_i32_6 c1_i32 k0_t1
  let c1280_i32 : BitVec 32 := 1280#32
  let v23 : BitVec 32 := Scalar.muli arg7 c1280_i32
  let v26 : Index := Scalar.indexCast v23
  ![0, v26.toNat]
def k0_cond3 (i : grid0.Coords) : BitVec 1 :=
  let arg0 : BitVec 32 := BitVec.ofNat 32 (i 0).val
  let c0_i32_1 : BitVec 32 := 0#32
  let v11 : BitVec 1 := Scalar.cmpi .eq arg0 c0_i32_1
  let c7_i32 : BitVec 32 := 7#32
  let v12 : BitVec 1 := Scalar.cmpi .eq arg0 c7_i32
  let v13 : BitVec 1 := Scalar.ori v11 v12
  let v_true : BitVec 1 := 1#1
  let v16 : BitVec 1 := Scalar.xori v13 v_true
  let v17 : BitVec 32 := Scalar.extui v16
  let c0_i32_3 : BitVec 32 := 0#32
  let v18 : BitVec 1 := Scalar.cmpi .ne v17 c0_i32_3
  v18

@[reducible] def k0_t2_loop : Scf.Loop 32 :=
  let c0_i32_6 : BitVec 32 := 0#32
  let c10_i32 : BitVec 32 := 10#32
  let v22 : BitVec 32 := Scalar.addi c0_i32_6 c10_i32
  let c1_i32 : BitVec 32 := 1#32
  ⟨c0_i32_6, v22, c1_i32⟩
def k0_off3 (k0_t2 : Fin k0_t2_loop.trips) : Fin 2 → Nat :=
  let c0 : Index := 0#32
  let c0_i32_6 : BitVec 32 := 0#32
  let c1_i32 : BitVec 32 := 1#32
  let arg7 : BitVec 32 := Scf.iv c0_i32_6 c1_i32 k0_t2
  let c1280_i32 : BitVec 32 := 1280#32
  let v23 : BitVec 32 := Scalar.muli arg7 c1280_i32
  let v24 : Index := Scalar.indexCast v23
  ![0, v24.toNat]
def k0_cond4 (i : grid0.Coords) : BitVec 1 :=
  let arg0 : BitVec 32 := BitVec.ofNat 32 (i 0).val
  let c7_i32_4 : BitVec 32 := 7#32
  let v19 : BitVec 1 := Scalar.cmpi .eq arg0 c7_i32_4
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x12800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_ln2" => some (((Real.log 2)⁻¹ : ℝ) : EReal)
  | "nln2" => some ((-(Real.log 2) : ℝ) : EReal)
  | _ => none
-- ==== ReferenceIdeal.lean ====
abbrev S64x100000 : Shape := ⟨2, ![64, 100000]⟩
abbrev S100000 : Shape := ⟨1, ![100000]⟩
abbrev S_ : Shape := ⟨0, ![]⟩
abbrev S1x100000 : Shape := ⟨2, ![1, 100000]⟩
abbrev S1 : Shape := ⟨1, ![1]⟩
abbrev S2 : Shape := ⟨1, ![2]⟩
abbrev S1x1 : Shape := ⟨2, ![1, 1]⟩
abbrev S64 : Shape := ⟨1, ![64]⟩

abbrev nBuf : Space → Nat
  | .hbm => 301
  | .vmem => 0
  | .smem => 0
  | _ => 0

abbrev hbmTy0_0 (i : Nat) : BufTy := match i % 128 with
  | 0 => ⟨S64x100000, .f32⟩
  | 1 => ⟨S100000, .f32⟩
  | 2 => ⟨S_, .f32⟩
  | 3 => ⟨S64x100000, .f32⟩
  | 4 => ⟨S64x100000, .f32⟩
  | 5 => ⟨S1x100000, .f32⟩
  | 6 => ⟨S64x100000, .f32⟩
  | 7 => ⟨S64x100000, .f32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S_, .f32⟩
  | 19 => ⟨S_, .f32⟩
  | 20 => ⟨S_, .f32⟩
  | 21 => ⟨S_, .f32⟩
  | 22 => ⟨S1x1, .f32⟩
  | 23 => ⟨S1x1, .f32⟩
  | 24 => ⟨S1, .i32⟩
  | 25 => ⟨S_, .i32⟩
  | 26 => ⟨S1, .i32⟩
  | 27 => ⟨S_, .i32⟩
  | 28 => ⟨S64x100000, .i64⟩
  | 29 => ⟨S64x100000, .i64⟩
  | 30 => ⟨S_, .i64⟩
  | 31 => ⟨S64x100000, .i64⟩
  | 32 => ⟨S64x100000, .i64⟩
  | 33 => ⟨S_, .i64⟩
  | 34 => ⟨S64x100000, .i64⟩
  | 35 => ⟨S64x100000, .i64⟩
  | 36 => ⟨S64x100000, .i64⟩
  | 37 => ⟨S_, .i64⟩
  | 38 => ⟨S64x100000, .i64⟩
  | 39 => ⟨S64x100000, .i64⟩
  | 40 => ⟨S64x100000, .i32⟩
  | 41 => ⟨S64x100000, .i32⟩
  | 42 => ⟨S_, .i32⟩
  | 43 => ⟨S_, .i32⟩
  | 44 => ⟨S_, .i32⟩
  | 45 => ⟨S64x100000, .i32⟩
  | 46 => ⟨S64x100000, .i32⟩
  | 47 => ⟨S64x100000, .i32⟩
  | 48 => ⟨S64x100000, .i32⟩
  | 49 => ⟨S64x100000, .i32⟩
  | 50 => ⟨S_, .i32⟩
  | 51 => ⟨S64x100000, .i32⟩
  | 52 => ⟨S64x100000, .i32⟩
  | 53 => ⟨S_, .i32⟩
  | 54 => ⟨S64x100000, .i32⟩
  | 55 => ⟨S64x100000, .i32⟩
  | 56 => ⟨S64x100000, .i32⟩
  | 57 => ⟨S64x100000, .i32⟩
  | 58 => ⟨S64x100000, .i32⟩
  | 59 => ⟨S_, .i32⟩
  | 60 => ⟨S64x100000, .i32⟩
  | 61 => ⟨S64x100000, .i32⟩
  | 62 => ⟨S_, .i32⟩
  | 63 => ⟨S64x100000, .i32⟩
  | 64 => ⟨S64x100000, .i32⟩
  | 65 => ⟨S64x100000, .i32⟩
  | 66 => ⟨S64x100000, .i32⟩
  | 67 => ⟨S64x100000, .i32⟩
  | 68 => ⟨S_, .i32⟩
  | 69 => ⟨S64x100000, .i32⟩
  | 70 => ⟨S64x100000, .i32⟩
  | 71 => ⟨S_, .i32⟩
  | 72 => ⟨S64x100000, .i32⟩
  | 73 => ⟨S64x100000, .i32⟩
  | 74 => ⟨S64x100000, .i32⟩
  | 75 => ⟨S64x100000, .i32⟩
  | 76 => ⟨S64x100000, .i32⟩
  | 77 => ⟨S_, .i32⟩
  | 78 => ⟨S64x100000, .i32⟩
  | 79 => ⟨S64x100000, .i32⟩
  | 80 => ⟨S_, .i32⟩
  | 81 => ⟨S64x100000, .i32⟩
  | 82 => ⟨S64x100000, .i32⟩
  | 83 => ⟨S64x100000, .i32⟩
  | 84 => ⟨S64x100000, .i32⟩
  | 85 => ⟨S64x100000, .i32⟩
  | 86 => ⟨S64x100000, .i32⟩
  | 87 => ⟨S64x100000, .i32⟩
  | 88 => ⟨S64x100000, .i32⟩
  | 89 => ⟨S_, .i32⟩
  | 90 => ⟨S64x100000, .i32⟩
  | 91 => ⟨S64x100000, .i32⟩
  | 92 => ⟨S64x100000, .i32⟩
  | 93 => ⟨S_, .i32⟩
  | 94 => ⟨S64x100000, .i32⟩
  | 95 => ⟨S64x100000, .i32⟩
  | 96 => ⟨S_, .i32⟩
  | 97 => ⟨S64x100000, .i32⟩
  | 98 => ⟨S64x100000, .i32⟩
  | 99 => ⟨S64x100000, .i32⟩
  | 100 => ⟨S64x100000, .i32⟩
  | 101 => ⟨S64x100000, .i32⟩
  | 102 => ⟨S_, .i32⟩
  | 103 => ⟨S64x100000, .i32⟩
  | 104 => ⟨S64x100000, .i32⟩
  | 105 => ⟨S_, .i32⟩
  | 106 => ⟨S64x100000, .i32⟩
  | 107 => ⟨S64x100000, .i32⟩
  | 108 => ⟨S64x100000, .i32⟩
  | 109 => ⟨S64x100000, .i32⟩
  | 110 => ⟨S64x100000, .i32⟩
  | 111 => ⟨S_, .i32⟩
  | 112 => ⟨S64x100000, .i32⟩
  | 113 => ⟨S64x100000, .i32⟩
  | 114 => ⟨S_, .i32⟩
  | 115 => ⟨S64x100000, .i32⟩
  | 116 => ⟨S64x100000, .i32⟩
  | 117 => ⟨S64x100000, .i32⟩
  | 118 => ⟨S64x100000, .i32⟩
  | 119 => ⟨S64x100000, .i32⟩
  | 120 => ⟨S_, .i32⟩
  | 121 => ⟨S64x100000, .i32⟩
  | 122 => ⟨S64x100000, .i32⟩
  | 123 => ⟨S_, .i32⟩
  | 124 => ⟨S64x100000, .i32⟩
  | 125 => ⟨S64x100000, .i32⟩
  | 126 => ⟨S64x100000, .i32⟩
  | 127 => ⟨S64x100000, .i32⟩
  | _ => ⟨S64x100000, .f32⟩

abbrev hbmTy0_1 (i : Nat) : BufTy := match i % 128 with
  | 0 => ⟨S64x100000, .i32⟩
  | 1 => ⟨S64x100000, .i32⟩
  | 2 => ⟨S64x100000, .i32⟩
  | 3 => ⟨S64x100000, .i32⟩
  | 4 => ⟨S_, .i32⟩
  | 5 => ⟨S64x100000, .i32⟩
  | 6 => ⟨S64x100000, .i32⟩
  | 7 => ⟨S64x100000, .i32⟩
  | 8 => ⟨S_, .i32⟩
  | 9 => ⟨S64x100000, .i32⟩
  | 10 => ⟨S64x100000, .i32⟩
  | 11 => ⟨S_, .i32⟩
  | 12 => ⟨S64x100000, .i32⟩
  | 13 => ⟨S64x100000, .i32⟩
  | 14 => ⟨S64x100000, .i32⟩
  | 15 => ⟨S64x100000, .i32⟩
  | 16 => ⟨S64x100000, .i32⟩
  | 17 => ⟨S_, .i32⟩
  | 18 => ⟨S64x100000, .i32⟩
  | 19 => ⟨S64x100000, .i32⟩
  | 20 => ⟨S_, .i32⟩
  | 21 => ⟨S64x100000, .i32⟩
  | 22 => ⟨S64x100000, .i32⟩
  | 23 => ⟨S64x100000, .i32⟩
  | 24 => ⟨S64x100000, .i32⟩
  | 25 => ⟨S64x100000, .i32⟩
  | 26 => ⟨S_, .i32⟩
  | 27 => ⟨S64x100000, .i32⟩
  | 28 => ⟨S64x100000, .i32⟩
  | 29 => ⟨S_, .i32⟩
  | 30 => ⟨S64x100000, .i32⟩
  | 31 => ⟨S64x100000, .i32⟩
  | 32 => ⟨S64x100000, .i32⟩
  | 33 => ⟨S64x100000, .i32⟩
  | 34 => ⟨S64x100000, .i32⟩
  | 35 => ⟨S_, .i32⟩
  | 36 => ⟨S64x100000, .i32⟩
  | 37 => ⟨S64x100000, .i32⟩
  | 38 => ⟨S_, .i32⟩
  | 39 => ⟨S64x100000, .i32⟩
  | 40 => ⟨S64x100000, .i32⟩
  | 41 => ⟨S64x100000, .i32⟩
  | 42 => ⟨S64x100000, .i32⟩
  | 43 => ⟨S64x100000, .i32⟩
  | 44 => ⟨S64x100000, .i32⟩
  | 45 => ⟨S64x100000, .i32⟩
  | 46 => ⟨S64x100000, .i32⟩
  | 47 => ⟨S_, .i32⟩
  | 48 => ⟨S64x100000, .i32⟩
  | 49 => ⟨S64x100000, .i32⟩
  | 50 => ⟨S64x100000, .i32⟩
  | 51 => ⟨S_, .i32⟩
  | 52 => ⟨S64x100000, .i32⟩
  | 53 => ⟨S64x100000, .i32⟩
  | 54 => ⟨S_, .i32⟩
  | 55 => ⟨S64x100000, .i32⟩
  | 56 => ⟨S64x100000, .i32⟩
  | 57 => ⟨S64x100000, .i32⟩
  | 58 => ⟨S64x100000, .i32⟩
  | 59 => ⟨S64x100000, .i32⟩
  | 60 => ⟨S_, .i32⟩
  | 61 => ⟨S64x100000, .i32⟩
  | 62 => ⟨S64x100000, .i32⟩
  | 63 => ⟨S_, .i32⟩
  | 64 => ⟨S64x100000, .i32⟩
  | 65 => ⟨S64x100000, .i32⟩
  | 66 => ⟨S64x100000, .i32⟩
  | 67 => ⟨S64x100000, .i32⟩
  | 68 => ⟨S64x100000, .i32⟩
  | 69 => ⟨S_, .i32⟩
  | 70 => ⟨S64x100000, .i32⟩
  | 71 => ⟨S64x100000, .i32⟩
  | 72 => ⟨S_, .i32⟩
  | 73 => ⟨S64x100000, .i32⟩
  | 74 => ⟨S64x100000, .i32⟩
  | 75 => ⟨S64x100000, .i32⟩
  | 76 => ⟨S64x100000, .i32⟩
  | 77 => ⟨S64x100000, .i32⟩
  | 78 => ⟨S_, .i32⟩
  | 79 => ⟨S64x100000, .i32⟩
  | 80 => ⟨S64x100000, .i32⟩
  | 81 => ⟨S_, .i32⟩
  | 82 => ⟨S64x100000, .i32⟩
  | 83 => ⟨S64x100000, .i32⟩
  | 84 => ⟨S64x100000, .i32⟩
  | 85 => ⟨S64x100000, .i32⟩
  | 86 => ⟨S64x100000, .i32⟩
  | 87 => ⟨S64x100000, .i32⟩
  | 88 => ⟨S64x100000, .i32⟩
  | 89 => ⟨S64x100000, .i32⟩
  | 90 => ⟨S_, .i32⟩
  | 91 => ⟨S64x100000, .i32⟩
  | 92 => ⟨S64x100000, .i32⟩
  | 93 => ⟨S64x100000, .i32⟩
  | 94 => ⟨S_, .i32⟩
  | 95 => ⟨S64x100000, .i32⟩
  | 96 => ⟨S64x100000, .i32⟩
  | 97 => ⟨S_, .i32⟩
  | 98 => ⟨S64x100000, .i32⟩
  | 99 => ⟨S64x100000, .i32⟩
  | 100 => ⟨S64x100000, .i32⟩
  | 101 => ⟨S64x100000, .i32⟩
  | 102 => ⟨S64x100000, .i32⟩
  | 103 => ⟨S_, .i32⟩
  | 104 => ⟨S64x100000, .i32⟩
  | 105 => ⟨S64x100000, .i32⟩
  | 106 => ⟨S_, .i32⟩
  | 107 => ⟨S64x100000, .i32⟩
  | 108 => ⟨S64x100000, .i32⟩
  | 109 => ⟨S64x100000, .i32⟩
  | 110 => ⟨S64x100000, .i32⟩
  | 111 => ⟨S64x100000, .i32⟩
  | 112 => ⟨S_, .i32⟩
  | 113 => ⟨S64x100000, .i32⟩
  | 114 => ⟨S64x100000, .i32⟩
  | 115 => ⟨S_, .i32⟩
  | 116 => ⟨S64x100000, .i32⟩
  | 117 => ⟨S64x100000, .i32⟩
  | 118 => ⟨S64x100000, .i32⟩
  | 119 => ⟨S64x100000, .i32⟩
  | 120 => ⟨S64x100000, .i32⟩
  | 121 => ⟨S_, .i32⟩
  | 122 => ⟨S64x100000, .i32⟩
  | 123 => ⟨S64x100000, .i32⟩
  | 124 => ⟨S_, .i32⟩
  | 125 => ⟨S64x100000, .i32⟩
  | 126 => ⟨S64x100000, .i32⟩
  | 127 => ⟨S64x100000, .i32⟩
  | _ => ⟨S64x100000, .f32⟩

abbrev hbmTy0_2 (i : Nat) : BufTy := match i % 128 with
  | 0 => ⟨S64x100000, .i32⟩
  | 1 => ⟨S64x100000, .i32⟩
  | 2 => ⟨S64x100000, .i32⟩
  | 3 => ⟨S64x100000, .i32⟩
  | 4 => ⟨S64x100000, .i32⟩
  | 5 => ⟨S_, .i32⟩
  | 6 => ⟨S64x100000, .i32⟩
  | 7 => ⟨S64x100000, .i32⟩
  | 8 => ⟨S64x100000, .i32⟩
  | 9 => ⟨S_, .i32⟩
  | 10 => ⟨S64x100000, .i32⟩
  | 11 => ⟨S64x100000, .i32⟩
  | 12 => ⟨S_, .i32⟩
  | 13 => ⟨S64x100000, .i32⟩
  | 14 => ⟨S64x100000, .i32⟩
  | 15 => ⟨S64x100000, .f32⟩
  | 16 => ⟨S_, .f32⟩
  | 17 => ⟨S64x100000, .f32⟩
  | 18 => ⟨S64x100000, .f32⟩
  | 19 => ⟨S1x1, .f32⟩
  | 20 => ⟨S64x100000, .f32⟩
  | 21 => ⟨S64x100000, .f32⟩
  | 22 => ⟨S64x100000, .f32⟩
  | 23 => ⟨S64x100000, .f32⟩
  | 24 => ⟨S64x100000, .f32⟩
  | 25 => ⟨S64x100000, .f32⟩
  | 26 => ⟨S_, .f32⟩
  | 27 => ⟨S64x100000, .f32⟩
  | 28 => ⟨S64x100000, .f32⟩
  | 29 => ⟨S_, .f32⟩
  | 30 => ⟨S64x100000, .f32⟩
  | 31 => ⟨S64x100000, .f32⟩
  | 32 => ⟨S_, .f32⟩
  | 33 => ⟨S64x100000, .f32⟩
  | 34 => ⟨S64x100000, .f32⟩
  | 35 => ⟨S64x100000, .f32⟩
  | 36 => ⟨S64x100000, .f32⟩
  | 37 => ⟨S64x100000, .f32⟩
  | 38 => ⟨S64x100000, .f32⟩
  | 39 => ⟨S64x100000, .f32⟩
  | 40 => ⟨S64x100000, .i32⟩
  | 41 => ⟨S_, .f32⟩
  | 42 => ⟨S_, .i32⟩
  | 43 => ⟨S64, .f32⟩
  | 44 => ⟨S64, .i32⟩
  | _ => ⟨S64x100000, .f32⟩

abbrev hbmTy (i : Nat) : BufTy := match i / 128 with
  | 0 => hbmTy0_0 i
  | 1 => hbmTy0_1 i
  | 2 => hbmTy0_2 i
  | _ => ⟨S64x100000, .f32⟩

abbrev bufTy : (tb : Table) → Fin (tcTables nBuf tb) → BufTy
  | .hbm, ⟨i, _⟩ => hbmTy i
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_c : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_c_1 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_call0_v0 : Ref sig .tc := ⟨.hbm, 42, rfl⟩
abbrev main_call0_call0_c : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_c_0 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_c_1 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_call0_v12 : Ref sig .tc := ⟨.hbm, 57, rfl⟩
abbrev main_call0_call0_v13 : Ref sig .tc := ⟨.hbm, 58, rfl⟩
abbrev main_call0_call0_c_2 : Ref sig .tc := ⟨.hbm, 59, rfl⟩
abbrev main_call0_call0_v14 : Ref sig .tc := ⟨.hbm, 60, rfl⟩
abbrev main_call0_call0_v15 : Ref sig .tc := ⟨.hbm, 61, rfl⟩
abbrev main_call0_call0_c_3 : Ref sig .tc := ⟨.hbm, 62, rfl⟩
abbrev main_call0_call0_v16 : Ref sig .tc := ⟨.hbm, 63, rfl⟩
abbrev main_call0_call0_v17 : Ref sig .tc := ⟨.hbm, 64, rfl⟩
abbrev main_call0_call0_v18 : Ref sig .tc := ⟨.hbm, 65, rfl⟩
abbrev main_call0_call0_v19 : Ref sig .tc := ⟨.hbm, 66, rfl⟩
abbrev main_call0_call0_v20 : Ref sig .tc := ⟨.hbm, 67, rfl⟩
abbrev main_call0_call0_c_4 : Ref sig .tc := ⟨.hbm, 68, rfl⟩
abbrev main_call0_call0_v21 : Ref sig .tc := ⟨.hbm, 69, rfl⟩
abbrev main_call0_call0_v22 : Ref sig .tc := ⟨.hbm, 70, rfl⟩
abbrev main_call0_call0_c_5 : Ref sig .tc := ⟨.hbm, 71, rfl⟩
abbrev main_call0_call0_v23 : Ref sig .tc := ⟨.hbm, 72, rfl⟩
abbrev main_call0_call0_v24 : Ref sig .tc := ⟨.hbm, 73, rfl⟩
abbrev main_call0_call0_v25 : Ref sig .tc := ⟨.hbm, 74, rfl⟩
abbrev main_call0_call0_v26 : Ref sig .tc := ⟨.hbm, 75, rfl⟩
abbrev main_call0_call0_v27 : Ref sig .tc := ⟨.hbm, 76, rfl⟩
abbrev main_call0_call0_c_6 : Ref sig .tc := ⟨.hbm, 77, rfl⟩
abbrev main_call0_call0_v28 : Ref sig .tc := ⟨.hbm, 78, rfl⟩
abbrev main_call0_call0_v29 : Ref sig .tc := ⟨.hbm, 79, rfl⟩
abbrev main_call0_call0_c_7 : Ref sig .tc := ⟨.hbm, 80, rfl⟩
abbrev main_call0_call0_v30 : Ref sig .tc := ⟨.hbm, 81, rfl⟩
abbrev main_call0_call0_v31 : Ref sig .tc := ⟨.hbm, 82, rfl⟩
abbrev main_call0_call0_v32 : Ref sig .tc := ⟨.hbm, 83, rfl⟩
abbrev main_call0_call0_v33 : Ref sig .tc := ⟨.hbm, 84, rfl⟩
abbrev main_call0_call0_v34 : Ref sig .tc := ⟨.hbm, 85, rfl⟩
abbrev main_call0_call0_v35 : Ref sig .tc := ⟨.hbm, 86, rfl⟩
abbrev main_call0_call0_v36 : Ref sig .tc := ⟨.hbm, 87, rfl⟩
abbrev main_call0_call0_v37 : Ref sig .tc := ⟨.hbm, 88, rfl⟩
abbrev main_call0_call0_c_8 : Ref sig .tc := ⟨.hbm, 89, rfl⟩
abbrev main_call0_call0_v38 : Ref sig .tc := ⟨.hbm, 90, rfl⟩
abbrev main_call0_call0_v39 : Ref sig .tc := ⟨.hbm, 91, rfl⟩
abbrev main_call0_call0_v40 : Ref sig .tc := ⟨.hbm, 92, rfl⟩
abbrev main_call0_call0_c_9 : Ref sig .tc := ⟨.hbm, 93, rfl⟩
abbrev main_call0_call0_v41 : Ref sig .tc := ⟨.hbm, 94, rfl⟩
abbrev main_call0_call0_v42 : Ref sig .tc := ⟨.hbm, 95, rfl⟩
abbrev main_call0_call0_c_10 : Ref sig .tc := ⟨.hbm, 96, rfl⟩
abbrev main_call0_call0_v43 : Ref sig .tc := ⟨.hbm, 97, rfl⟩
abbrev main_call0_call0_v44 : Ref sig .tc := ⟨.hbm, 98, rfl⟩
abbrev main_call0_call0_v45 : Ref sig .tc := ⟨.hbm, 99, rfl⟩
abbrev main_call0_call0_v46 : Ref sig .tc := ⟨.hbm, 100, rfl⟩
abbrev main_call0_call0_v47 : Ref sig .tc := ⟨.hbm, 101, rfl⟩
abbrev main_call0_call0_c_11 : Ref sig .tc := ⟨.hbm, 102, rfl⟩
abbrev main_call0_call0_v48 : Ref sig .tc := ⟨.hbm, 103, rfl⟩
abbrev main_call0_call0_v49 : Ref sig .tc := ⟨.hbm, 104, rfl⟩
abbrev main_call0_call0_c_12 : Ref sig .tc := ⟨.hbm, 105, rfl⟩
abbrev main_call0_call0_v50 : Ref sig .tc := ⟨.hbm, 106, rfl⟩
abbrev main_call0_call0_v51 : Ref sig .tc := ⟨.hbm, 107, rfl⟩
abbrev main_call0_call0_v52 : Ref sig .tc := ⟨.hbm, 108, rfl⟩
abbrev main_call0_call0_v53 : Ref sig .tc := ⟨.hbm, 109, rfl⟩
abbrev main_call0_call0_v54 : Ref sig .tc := ⟨.hbm, 110, rfl⟩
abbrev main_call0_call0_c_13 : Ref sig .tc := ⟨.hbm, 111, rfl⟩
abbrev main_call0_call0_v55 : Ref sig .tc := ⟨.hbm, 112, rfl⟩
abbrev main_call0_call0_v56 : Ref sig .tc := ⟨.hbm, 113, rfl⟩
abbrev main_call0_call0_c_14 : Ref sig .tc := ⟨.hbm, 114, rfl⟩
abbrev main_call0_call0_v57 : Ref sig .tc := ⟨.hbm, 115, rfl⟩
abbrev main_call0_call0_v58 : Ref sig .tc := ⟨.hbm, 116, rfl⟩
abbrev main_call0_call0_v59 : Ref sig .tc := ⟨.hbm, 117, rfl⟩
abbrev main_call0_call0_v60 : Ref sig .tc := ⟨.hbm, 118, rfl⟩
abbrev main_call0_call0_v61 : Ref sig .tc := ⟨.hbm, 119, rfl⟩
abbrev main_call0_call0_c_15 : Ref sig .tc := ⟨.hbm, 120, rfl⟩
abbrev main_call0_call0_v62 : Ref sig .tc := ⟨.hbm, 121, rfl⟩
abbrev main_call0_call0_v63 : Ref sig .tc := ⟨.hbm, 122, rfl⟩
abbrev main_call0_call0_c_16 : Ref sig .tc := ⟨.hbm, 123, rfl⟩
abbrev main_call0_call0_v64 : Ref sig .tc := ⟨.hbm, 124, rfl⟩
abbrev main_call0_call0_v65 : Ref sig .tc := ⟨.hbm, 125, rfl⟩
abbrev main_call0_call0_v66 : Ref sig .tc := ⟨.hbm, 126, rfl⟩
abbrev main_call0_call0_v67 : Ref sig .tc := ⟨.hbm, 127, rfl⟩
abbrev main_call0_call0_v68 : Ref sig .tc := ⟨.hbm, 128, rfl⟩
abbrev main_call0_call0_v69 : Ref sig .tc := ⟨.hbm, 129, rfl⟩
abbrev main_call0_call0_v70 : Ref sig .tc := ⟨.hbm, 130, rfl⟩
abbrev main_call0_call0_v71 : Ref sig .tc := ⟨.hbm, 131, rfl⟩
abbrev main_call0_call0_c_17 : Ref sig .tc := ⟨.hbm, 132, rfl⟩
abbrev main_call0_call0_v72 : Ref sig .tc := ⟨.hbm, 133, rfl⟩
abbrev main_call0_call0_v73 : Ref sig .tc := ⟨.hbm, 134, rfl⟩
abbrev main_call0_call0_v74 : Ref sig .tc := ⟨.hbm, 135, rfl⟩
abbrev main_call0_call0_c_18 : Ref sig .tc := ⟨.hbm, 136, rfl⟩
abbrev main_call0_call0_v75 : Ref sig .tc := ⟨.hbm, 137, rfl⟩
abbrev main_call0_call0_v76 : Ref sig .tc := ⟨.hbm, 138, rfl⟩
abbrev main_call0_call0_c_19 : Ref sig .tc := ⟨.hbm, 139, rfl⟩
abbrev main_call0_call0_v77 : Ref sig .tc := ⟨.hbm, 140, rfl⟩
abbrev main_call0_call0_v78 : Ref sig .tc := ⟨.hbm, 141, rfl⟩
abbrev main_call0_call0_v79 : Ref sig .tc := ⟨.hbm, 142, rfl⟩
abbrev main_call0_call0_v80 : Ref sig .tc := ⟨.hbm, 143, rfl⟩
abbrev main_call0_call0_v81 : Ref sig .tc := ⟨.hbm, 144, rfl⟩
abbrev main_call0_call0_c_20 : Ref sig .tc := ⟨.hbm, 145, rfl⟩
abbrev main_call0_call0_v82 : Ref sig .tc := ⟨.hbm, 146, rfl⟩
abbrev main_call0_call0_v83 : Ref sig .tc := ⟨.hbm, 147, rfl⟩
abbrev main_call0_call0_c_21 : Ref sig .tc := ⟨.hbm, 148, rfl⟩
abbrev main_call0_call0_v84 : Ref sig .tc := ⟨.hbm, 149, rfl⟩
abbrev main_call0_call0_v85 : Ref sig .tc := ⟨.hbm, 150, rfl⟩
abbrev main_call0_call0_v86 : Ref sig .tc := ⟨.hbm, 151, rfl⟩
abbrev main_call0_call0_v87 : Ref sig .tc := ⟨.hbm, 152, rfl⟩
abbrev main_call0_call0_v88 : Ref sig .tc := ⟨.hbm, 153, rfl⟩
abbrev main_call0_call0_c_22 : Ref sig .tc := ⟨.hbm, 154, rfl⟩
abbrev main_call0_call0_v89 : Ref sig .tc := ⟨.hbm, 155, rfl⟩
abbrev main_call0_call0_v90 : Ref sig .tc := ⟨.hbm, 156, rfl⟩
abbrev main_call0_call0_c_23 : Ref sig .tc := ⟨.hbm, 157, rfl⟩
abbrev main_call0_call0_v91 : Ref sig .tc := ⟨.hbm, 158, rfl⟩
abbrev main_call0_call0_v92 : Ref sig .tc := ⟨.hbm, 159, rfl⟩
abbrev main_call0_call0_v93 : Ref sig .tc := ⟨.hbm, 160, rfl⟩
abbrev main_call0_call0_v94 : Ref sig .tc := ⟨.hbm, 161, rfl⟩
abbrev main_call0_call0_v95 : Ref sig .tc := ⟨.hbm, 162, rfl⟩
abbrev main_call0_call0_c_24 : Ref sig .tc := ⟨.hbm, 163, rfl⟩
abbrev main_call0_call0_v96 : Ref sig .tc := ⟨.hbm, 164, rfl⟩
abbrev main_call0_call0_v97 : Ref sig .tc := ⟨.hbm, 165, rfl⟩
abbrev main_call0_call0_c_25 : Ref sig .tc := ⟨.hbm, 166, rfl⟩
abbrev main_call0_call0_v98 : Ref sig .tc := ⟨.hbm, 167, rfl⟩
abbrev main_call0_call0_v99 : Ref sig .tc := ⟨.hbm, 168, rfl⟩
abbrev main_call0_call0_v100 : Ref sig .tc := ⟨.hbm, 169, rfl⟩
abbrev main_call0_call0_v101 : Ref sig .tc := ⟨.hbm, 170, rfl⟩
abbrev main_call0_call0_v102 : Ref sig .tc := ⟨.hbm, 171, rfl⟩
abbrev main_call0_call0_v103 : Ref sig .tc := ⟨.hbm, 172, rfl⟩
abbrev main_call0_call0_v104 : Ref sig .tc := ⟨.hbm, 173, rfl⟩
abbrev main_call0_call0_v105 : Ref sig .tc := ⟨.hbm, 174, rfl⟩
abbrev main_call0_call0_c_26 : Ref sig .tc := ⟨.hbm, 175, rfl⟩
abbrev main_call0_call0_v106 : Ref sig .tc := ⟨.hbm, 176, rfl⟩
abbrev main_call0_call0_v107 : Ref sig .tc := ⟨.hbm, 177, rfl⟩
abbrev main_call0_call0_v108 : Ref sig .tc := ⟨.hbm, 178, rfl⟩
abbrev main_call0_call0_c_27 : Ref sig .tc := ⟨.hbm, 179, rfl⟩
abbrev main_call0_call0_v109 : Ref sig .tc := ⟨.hbm, 180, rfl⟩
abbrev main_call0_call0_v110 : Ref sig .tc := ⟨.hbm, 181, rfl⟩
abbrev main_call0_call0_c_28 : Ref sig .tc := ⟨.hbm, 182, rfl⟩
abbrev main_call0_call0_v111 : Ref sig .tc := ⟨.hbm, 183, rfl⟩
abbrev main_call0_call0_v112 : Ref sig .tc := ⟨.hbm, 184, rfl⟩
abbrev main_call0_call0_v113 : Ref sig .tc := ⟨.hbm, 185, rfl⟩
abbrev main_call0_call0_v114 : Ref sig .tc := ⟨.hbm, 186, rfl⟩
abbrev main_call0_call0_v115 : Ref sig .tc := ⟨.hbm, 187, rfl⟩
abbrev main_call0_call0_c_29 : Ref sig .tc := ⟨.hbm, 188, rfl⟩
abbrev main_call0_call0_v116 : Ref sig .tc := ⟨.hbm, 189, rfl⟩
abbrev main_call0_call0_v117 : Ref sig .tc := ⟨.hbm, 190, rfl⟩
abbrev main_call0_call0_c_30 : Ref sig .tc := ⟨.hbm, 191, rfl⟩
abbrev main_call0_call0_v118 : Ref sig .tc := ⟨.hbm, 192, rfl⟩
abbrev main_call0_call0_v119 : Ref sig .tc := ⟨.hbm, 193, rfl⟩
abbrev main_call0_call0_v120 : Ref sig .tc := ⟨.hbm, 194, rfl⟩
abbrev main_call0_call0_v121 : Ref sig .tc := ⟨.hbm, 195, rfl⟩
abbrev main_call0_call0_v122 : Ref sig .tc := ⟨.hbm, 196, rfl⟩
abbrev main_call0_call0_c_31 : Ref sig .tc := ⟨.hbm, 197, rfl⟩
abbrev main_call0_call0_v123 : Ref sig .tc := ⟨.hbm, 198, rfl⟩
abbrev main_call0_call0_v124 : Ref sig .tc := ⟨.hbm, 199, rfl⟩
abbrev main_call0_call0_c_32 : Ref sig .tc := ⟨.hbm, 200, rfl⟩
abbrev main_call0_call0_v125 : Ref sig .tc := ⟨.hbm, 201, rfl⟩
abbrev main_call0_call0_v126 : Ref sig .tc := ⟨.hbm, 202, rfl⟩
abbrev main_call0_call0_v127 : Ref sig .tc := ⟨.hbm, 203, rfl⟩
abbrev main_call0_call0_v128 : Ref sig .tc := ⟨.hbm, 204, rfl⟩
abbrev main_call0_call0_v129 : Ref sig .tc := ⟨.hbm, 205, rfl⟩
abbrev main_call0_call0_c_33 : Ref sig .tc := ⟨.hbm, 206, rfl⟩
abbrev main_call0_call0_v130 : Ref sig .tc := ⟨.hbm, 207, rfl⟩
abbrev main_call0_call0_v131 : Ref sig .tc := ⟨.hbm, 208, rfl⟩
abbrev main_call0_call0_c_34 : Ref sig .tc := ⟨.hbm, 209, rfl⟩
abbrev main_call0_call0_v132 : Ref sig .tc := ⟨.hbm, 210, rfl⟩
abbrev main_call0_call0_v133 : Ref sig .tc := ⟨.hbm, 211, rfl⟩
abbrev main_call0_call0_v134 : Ref sig .tc := ⟨.hbm, 212, rfl⟩
abbrev main_call0_call0_v135 : Ref sig .tc := ⟨.hbm, 213, rfl⟩
abbrev main_call0_call0_v136 : Ref sig .tc := ⟨.hbm, 214, rfl⟩
abbrev main_call0_call0_v137 : Ref sig .tc := ⟨.hbm, 215, rfl⟩
abbrev main_call0_call0_v138 : Ref sig .tc := ⟨.hbm, 216, rfl⟩
abbrev main_call0_call0_v139 : Ref sig .tc := ⟨.hbm, 217, rfl⟩
abbrev main_call0_call0_c_35 : Ref sig .tc := ⟨.hbm, 218, rfl⟩
abbrev main_call0_call0_v140 : Ref sig .tc := ⟨.hbm, 219, rfl⟩
abbrev main_call0_call0_v141 : Ref sig .tc := ⟨.hbm, 220, rfl⟩
abbrev main_call0_call0_v142 : Ref sig .tc := ⟨.hbm, 221, rfl⟩
abbrev main_call0_call0_c_36 : Ref sig .tc := ⟨.hbm, 222, rfl⟩
abbrev main_call0_call0_v143 : Ref sig .tc := ⟨.hbm, 223, rfl⟩
abbrev main_call0_call0_v144 : Ref sig .tc := ⟨.hbm, 224, rfl⟩
abbrev main_call0_call0_c_37 : Ref sig .tc := ⟨.hbm, 225, rfl⟩
abbrev main_call0_call0_v145 : Ref sig .tc := ⟨.hbm, 226, rfl⟩
abbrev main_call0_call0_v146 : Ref sig .tc := ⟨.hbm, 227, rfl⟩
abbrev main_call0_call0_v147 : Ref sig .tc := ⟨.hbm, 228, rfl⟩
abbrev main_call0_call0_v148 : Ref sig .tc := ⟨.hbm, 229, rfl⟩
abbrev main_call0_call0_v149 : Ref sig .tc := ⟨.hbm, 230, rfl⟩
abbrev main_call0_call0_c_38 : Ref sig .tc := ⟨.hbm, 231, rfl⟩
abbrev main_call0_call0_v150 : Ref sig .tc := ⟨.hbm, 232, rfl⟩
abbrev main_call0_call0_v151 : Ref sig .tc := ⟨.hbm, 233, rfl⟩
abbrev main_call0_call0_c_39 : Ref sig .tc := ⟨.hbm, 234, rfl⟩
abbrev main_call0_call0_v152 : Ref sig .tc := ⟨.hbm, 235, rfl⟩
abbrev main_call0_call0_v153 : Ref sig .tc := ⟨.hbm, 236, rfl⟩
abbrev main_call0_call0_v154 : Ref sig .tc := ⟨.hbm, 237, rfl⟩
abbrev main_call0_call0_v155 : Ref sig .tc := ⟨.hbm, 238, rfl⟩
abbrev main_call0_call0_v156 : Ref sig .tc := ⟨.hbm, 239, rfl⟩
abbrev main_call0_call0_c_40 : Ref sig .tc := ⟨.hbm, 240, rfl⟩
abbrev main_call0_call0_v157 : Ref sig .tc := ⟨.hbm, 241, rfl⟩
abbrev main_call0_call0_v158 : Ref sig .tc := ⟨.hbm, 242, rfl⟩
abbrev main_call0_call0_c_41 : Ref sig .tc := ⟨.hbm, 243, rfl⟩
abbrev main_call0_call0_v159 : Ref sig .tc := ⟨.hbm, 244, rfl⟩
abbrev main_call0_call0_v160 : Ref sig .tc := ⟨.hbm, 245, rfl⟩
abbrev main_call0_call0_v161 : Ref sig .tc := ⟨.hbm, 246, rfl⟩
abbrev main_call0_call0_v162 : Ref sig .tc := ⟨.hbm, 247, rfl⟩
abbrev main_call0_call0_v163 : Ref sig .tc := ⟨.hbm, 248, rfl⟩
abbrev main_call0_call0_c_42 : Ref sig .tc := ⟨.hbm, 249, rfl⟩
abbrev main_call0_call0_v164 : Ref sig .tc := ⟨.hbm, 250, rfl⟩
abbrev main_call0_call0_v165 : Ref sig .tc := ⟨.hbm, 251, rfl⟩
abbrev main_call0_call0_c_43 : Ref sig .tc := ⟨.hbm, 252, rfl⟩
abbrev main_call0_call0_v166 : Ref sig .tc := ⟨.hbm, 253, rfl⟩
abbrev main_call0_call0_v167 : Ref sig .tc := ⟨.hbm, 254, rfl⟩
abbrev main_call0_call0_v168 : Ref sig .tc := ⟨.hbm, 255, rfl⟩
abbrev main_call0_call0_v169 : Ref sig .tc := ⟨.hbm, 256, rfl⟩
abbrev main_call0_call0_v170 : Ref sig .tc := ⟨.hbm, 257, rfl⟩
abbrev main_call0_v19_0 : Ref sig .tc := ⟨.hbm, 258, rfl⟩
abbrev main_call0_call0_v172 : Ref sig .tc := ⟨.hbm, 259, rfl⟩
abbrev main_call0_call0_v173 : Ref sig .tc := ⟨.hbm, 260, rfl⟩
abbrev main_call0_call0_c_44 : Ref sig .tc := ⟨.hbm, 261, rfl⟩
abbrev main_call0_call0_v174 : Ref sig .tc := ⟨.hbm, 262, rfl⟩
abbrev main_call0_v19_1 : Ref sig .tc := ⟨.hbm, 263, rfl⟩
abbrev main_call0_v20 : Ref sig .tc := ⟨.hbm, 264, rfl⟩
abbrev main_call0_c_2 : Ref sig .tc := ⟨.hbm, 265, rfl⟩
abbrev main_call0_v21 : Ref sig .tc := ⟨.hbm, 266, rfl⟩
abbrev main_call0_v22 : Ref sig .tc := ⟨.hbm, 267, rfl⟩
abbrev main_call0_c_3 : Ref sig .tc := ⟨.hbm, 268, rfl⟩
abbrev main_call0_v23 : Ref sig .tc := ⟨.hbm, 269, rfl⟩
abbrev main_call0_v24 : Ref sig .tc := ⟨.hbm, 270, rfl⟩
abbrev main_call0_v25 : Ref sig .tc := ⟨.hbm, 271, rfl⟩
abbrev main_call0_cst : Ref sig .tc := ⟨.hbm, 272, rfl⟩
abbrev main_call0_v26 : Ref sig .tc := ⟨.hbm, 273, rfl⟩
abbrev main_call0_v27 : Ref sig .tc := ⟨.hbm, 274, rfl⟩
abbrev main_call0_v28 : Ref sig .tc := ⟨.hbm, 275, rfl⟩
abbrev main_call0_v29 : Ref sig .tc := ⟨.hbm, 276, rfl⟩
abbrev main_call0_v30 : Ref sig .tc := ⟨.hbm, 277, rfl⟩
abbrev main_call0_v31 : Ref sig .tc := ⟨.hbm, 278, rfl⟩
abbrev main_call0_v32 : Ref sig .tc := ⟨.hbm, 279, rfl⟩
abbrev main_call0_v33 : Ref sig .tc := ⟨.hbm, 280, rfl⟩
abbrev main_v12 : Ref sig .tc := ⟨.hbm, 281, rfl⟩
abbrev main_cst_4 : Ref sig .tc := ⟨.hbm, 282, rfl⟩
abbrev main_v13 : Ref sig .tc := ⟨.hbm, 283, rfl⟩
abbrev main_v14 : Ref sig .tc := ⟨.hbm, 284, rfl⟩
abbrev main_cst_5 : Ref sig .tc := ⟨.hbm, 285, rfl⟩
abbrev main_v15 : Ref sig .tc := ⟨.hbm, 286, rfl⟩
abbrev main_v16 : Ref sig .tc := ⟨.hbm, 287, rfl⟩
abbrev main_cst_6 : Ref sig .tc := ⟨.hbm, 288, rfl⟩
abbrev main_v17 : Ref sig .tc := ⟨.hbm, 289, rfl⟩
abbrev main_v18 : Ref sig .tc := ⟨.hbm, 290, rfl⟩
abbrev main_v19 : Ref sig .tc := ⟨.hbm, 291, rfl⟩
abbrev main_v20 : Ref sig .tc := ⟨.hbm, 292, rfl⟩
abbrev main_v21 : Ref sig .tc := ⟨.hbm, 293, rfl⟩
abbrev main_v22 : Ref sig .tc := ⟨.hbm, 294, rfl⟩
abbrev main_v23 : Ref sig .tc := ⟨.hbm, 295, rfl⟩
abbrev main_call1_v0 : Ref sig .tc := ⟨.hbm, 296, rfl⟩
abbrev main_call1_cst : Ref sig .tc := ⟨.hbm, 297, rfl⟩
abbrev main_call1_c : Ref sig .tc := ⟨.hbm, 298, rfl⟩
abbrev main_call1_v1_0 : Ref sig .tc := ⟨.hbm, 299, rfl⟩
abbrev main_v24 : Ref sig .tc := ⟨.hbm, 300, rfl⟩

abbrev nD : Nat := 1
abbrev τ : Topo := Topo.v7x

variable {F : FTy → Type} [FloatOps F]
-- ==== Proof.Sample.Frame.lean ====
/- The frame of the compiled kernel: its body leaves every buffer it is handed at SOME contents, and the launch around the region
   then ends with both argument arrays as launched and every counter at zero. -/
module

public import proofs.«01_k».proof.Proof.Gen.Kernel.Frame
public import proofs.«01_k».proof.Proof.Gen.Kernel.Loops

@[expose] public section

noncomputable section

namespace Cert.Sample.Bare

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- The kernel has no loop variants of its own. -/
abbrev 𝒱₀ : Variants := Variants.none

/-- A memref's elements held at SOME contents. -/
abbrev held (c : Dev nD) {sp : Space} {s : Shape} {e : EltTy} (a : Memref sig .tc sp s e) : sProp 𝕄 :=
  iprop(∃ f, a.view.loc (c : Thread nD τ) ↦[a.view.set]{fullShare} f)

/-- The body, whatever its six buffers hold: it terminates and hands each of them back at some contents. -/
theorem body_keeps (c : Dev nD) (i : grid0.Coords) (arg1 : Memref sig .tc .vmem S64x12800 .f32) (harg1 : arg1.IsWhole)
    (arg2 : Memref sig .tc .vmem S1x12800 .f32) (harg2 : arg2.IsWhole) (arg3 : Memref sig .tc .vmem S64x1 .i32) (harg3 : arg3.IsWhole)
    (arg4 : Memref sig .tc .vmem S64x12800 .f32) (harg4 : arg4.IsWhole) (arg5 : Memref sig .tc .vmem S64x1280 .f32) (harg5 : arg5.IsWhole)
    (arg6 : Memref sig .tc .vmem S64x1280 .i32) (harg6 : arg6.IsWhole) :
    (iprop(held c arg1 ∗ held c arg2 ∗ held c arg3 ∗ held c arg4 ∗ held c arg5 ∗ held c arg6) : sProp 𝕄)
      ⊢ wp frame (wpE (defs₀ (F := F)) 𝒱₀ c none) Set.univ
          (cc0__body i arg1 harg1 arg2 harg2 arg3 harg3 arg4 harg4 arg5 harg5 arg6 harg6)
          fun _ => iprop(held c arg1 ∗ held c arg2 ∗ held c arg3 ∗ held c arg4 ∗ held c arg5 ∗ held c arg6) := by
  rw [cc0__body_eq_skeleton]; unfold cc0__body_skel
  iintro ⟨⟨%f1, H1⟩, ⟨%f2, H2⟩, ⟨%f3, H3⟩, ⟨%f4, H4⟩, ⟨%f5, H5⟩, ⟨%f6, H6⟩⟩
  by_cases hc1 : Scalar.cmpi .ne (Scalar.extui (Scalar.cmpi .eq (BitVec.ofNat 32 (i 0).val) 0#32) : BitVec 32) 0#32 = 1#1 <;> by_cases hc2 : k0_cond2 i = 1#1 <;>
    by_cases hc3 : k0_cond3 i = 1#1 <;> by_cases hc4 : k0_cond4 i = 1#1
  all_goals sl_exec
  all_goals sl_step
  all_goals sl_close

/-! ## The launch -/

variable (m : (ℓ : Loc nD τ sig) → Buf (Elt F) ℓ) (ρ : Dev nD → PrngReg)

/-- The proof data: every array as the region finds it, every staging buffer at contents nothing names, the scratch at any. -/
def dats (_ : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q _ := fullShare
  owed _ := 0

theorem defs₀_row (t : Fin cfg0.N) :
    (defs₀ (F := F)) .tc cfg0.body (cfg0.bodyArgs t (cfg0.slots t)) = bodyAt0 (F := F) t := by
  unfold defs₀; rw [Defs.onTc_tc]

/-- A buffer owned whole through a memref is the memref's elements at some contents, and the other way round. -/
theorem owns_some_held (c : Dev nD) {sp : Space} {s : Shape} {e : EltTy} (a : Memref sig .tc sp s e) :
    (iprop(∃ X, owns (c : Thread nD τ) a fullShare X) : sProp 𝕄) ⊢ held c a := by
  unfold held owns
  iintro ⟨%X, %f, -, H⟩
  iexists f; iexact H

theorem held_owns_some (c : Dev nD) {sp : Space} {s : Shape} {e : EltTy} (a : Memref sig .tc sp s e) :
    (held c a : sProp 𝕄) ⊢ iprop(∃ X, owns (c : Thread nD τ) a fullShare X) := by
  unfold held owns
  iintro ⟨%f, H⟩
  iexists _; iexists f
  isplitr; · ipureintro; rfl
  iexact H

/-- A whole buffer's elements at some contents are the buffer at some contents. -/
theorem held_whole (c : Dev nD) (b : Ref sig .tc) :
    (held c (Memref.whole b) : sProp 𝕄) = iprop(∃ f : Buf (Elt F) ((c : Thread nD τ).loc b), ((c : Thread nD τ).loc b) ↦{fullShare} f) := by
  unfold held; simp only [Memref.view_whole, View.set_whole]

/-- The body's obligation with no window's contents named. -/
theorem body_obligation (c : Dev nD) :
    BodyObligationLoose (dats (F := F) m 0 c) (defs₀ (F := F)) 𝒱₀ () Set.univ (fun _ => true) := fun t => by
  rw [bigSep_W0, defs₀_row]
  simp only
  change iprop(Pipeline.ΦA spec0 c ∗ _) ⊢ wp _ _ _ _ fun _ => iprop(Pipeline.ΦA spec0 c ∗ _)
  unfold Pipeline.ΦA
  rw [scopedRest0_eq]
  iintro ⟨⟨⟨⟨%g0, Hs0⟩, ⟨%g1, Hs1⟩⟩, Hp⟩, Ho, H0, H1, H2, H3⟩
  iapply (wp_wand_r Idealize.ShloMosaic.frame (wpE (defs₀ (F := F)) 𝒱₀ (c : Thread nD τ) none) Set.univ)
  isplitl [H0 H1 H2 H3 Hs0 Hs1]
  · iapply (body_keeps (F := F) c (grid0.coords t) _ _ _ _ _ _ _ _ _ _ _ _)
    isplitl [H0]; · iapply (owns_some_held (F := F) c _); iexact H0
    isplitl [H1]; · iapply (owns_some_held (F := F) c _); iexact H1
    isplitl [H2]; · iapply (owns_some_held (F := F) c _); iexact H2
    isplitl [H3]; · iapply (owns_some_held (F := F) c _); iexact H3
    isplitl [Hs0]
    · rw [held_whole]; iexists g0; iexact Hs0
    · rw [held_whole]; iexists g1; iexact Hs1
  · rw [held_whole, held_whole]
    iintro %_ ⟨H0, H1, H2, H3, Hs0, Hs1⟩
    isplitl [Hs0 Hs1 Hp]
    · isplitl [Hs0 Hs1]
      · isplitl [Hs0]; · iexact Hs0
        iexact Hs1
      · iexact Hp
    isplitl [Ho]; · iexact Ho
    isplitl [H0]; · iapply (held_owns_some (F := F) c _); iexact H0
    isplitl [H1]; · iapply (held_owns_some (F := F) c _); iexact H1
    isplitl [H2]; · iapply (held_owns_some (F := F) c _); iexact H2
    iapply (held_owns_some (F := F) c _); iexact H3

/-- The one buffer the host line after the region writes. -/
abbrev T : Finset (Ref sig .tc) := {main_v3}

theorem tail_writes : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  by_contra hne
  exact StableHlo.devRef_ne_of_ne (fun h => hne (by rw [h]; exact Finset.mem_singleton_self _)) hb

set_option backward.isDefEq.respectTransparency.types false in
/-- From any memory and counters at zero, every weakly fair execution terminates with both arguments as launched and every
    counter back at zero. -/
theorem run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_around_T_forget cfgs (dats m) 0 launch0 defs₀ 𝒱₀ (fun _ => true) T m ρ main
    (hbody := body_obligation m) (hshare := fun c => (dats m 0 c).share_full fun _ => rfl) (howed := fun _ _ => rfl)
    (V₀ := V0 m) (opss := [hostOps1]) sfx_sub sfx_fresh sfx_keeps tail_writes (hmain m 𝒱₀) (fun _ _ => rfl) (fun _ _ => rfl)
    (Q' := _) (hQ' := fun r h => ⟨fun c => ⟨(Pipeline.RDat.FramePostR.arr_in h.1 c 0 rfl).trans (V_main_arg0 m c),
      ((h.1 c).2 main_arg1 (Finset.mem_sdiff.2 ⟨Pipeline.mem_restRefs_of main_arg1 (by decide) (by decide), by decide⟩)).trans (V_main_arg1 m c)⟩, h.2⟩)

end Cert.Sample.Bare

end
-- ==== Proof.Sample.Loop.lean ====
/- What the two counted loops of the kernel leave, read as values.  A trip writes one tile of the masked block and
   folds the tile's scores into the running maximum and the tile marks; after `n` trips the scratch buffers hold the fold
   of the first `n` tiles' scores and the first `n` tiles of the block hold their rows. -/
module

public import proofs.«01_k».proof.Proof.Gen.KernelIdeal.Loops
public import Idealize.ShloMosaic.Lib.Pipeline.Value
public import Idealize.ShloMosaic.Lib.VecWindow
public import Idealize.ShloMosaic.Lib.WritesUnit

@[expose] public section

noncomputable section

namespace Cert.Sample.Loop

open Cert.KernelIdeal Cert.KernelIdeal.Gen
open Idealize.ShloMosaic Idealize.ShloMosaic.TcCoe Idealize.ShloMosaic.Tactic

variable {F : FTy → Type} [FloatOps F] [Named F]

/-- A running maximum per lane and the mark of the tile it came from. -/
abbrev Best (F : FTy → Type) : Type := FVec F S64x1280 .f32 × IVec S64x1280 32

/-- One tile folded in: a lane whose score is greater takes the score and the tile's mark. -/
def push (s : FVec F S64x1280 .f32) (w : BitVec 32) (p : Best F) : Best F :=
  (select (cmpf .ogt s p.1) s p.1, select (cmpf .ogt s p.1) (broadcast S64x1280 w) p.2)

/-- The first `n` tiles folded in, in order. -/
def tiles (s : ℕ → FVec F S64x1280 .f32) (w : ℕ → BitVec 32) (p : Best F) : ℕ → Best F
  | 0 => p
  | n + 1 => push (s n) (w n) (tiles s w p n)

/-- Folding `a` tiles and then `n` more is folding `a + n` tiles. -/
theorem tiles_add (s : ℕ → FVec F S64x1280 .f32) (w : ℕ → BitVec 32) (p : Best F) (a : ℕ) : ∀ n,
    tiles (fun k => s (a + k)) (fun k => w (a + k)) (tiles s w p a) n = tiles s w p (a + n)
  | 0 => rfl
  | n + 1 => by
    show push _ _ (tiles (fun k => s (a + k)) (fun k => w (a + k)) (tiles s w p a) n) = push _ _ (tiles s w p (a + n))
    rw [tiles_add s w p a n]; rfl

/-- The two folds agree when the scores and the marks of the first `n` tiles do. -/
theorem tiles_congr {s s' : ℕ → FVec F S64x1280 .f32} {w w' : ℕ → BitVec 32} (p : Best F) : ∀ n,
    (∀ k < n, s k = s' k) → (∀ k < n, w k = w' k) → tiles s w p n = tiles s' w' p n
  | 0, _, _ => rfl
  | n + 1, hs, hw => by
    show push _ _ _ = push _ _ _
    rw [tiles_congr p n (fun k hk => hs k (Nat.lt_succ_of_lt hk)) (fun k hk => hw k (Nat.lt_succ_of_lt hk)),
      hs n (Nat.lt_succ_self n), hw n (Nat.lt_succ_self n)]

/-- The mark of trip `k` at grid point `i`: ten tiles a point. -/
def mark (i : grid0.Coords) (k : ℕ) : BitVec 32 :=
  Scalar.addi (Scalar.muli (BitVec.ofNat 32 (i 0).val) 10#32) (Scf.iv 0#32 1#32 k)

variable (𝒱 : Variants) (c : Dev nD) (bd : Option 𝒱.V) (i : grid0.Coords)
  (a1 : Memref sig .tc .vmem S64x12800 .f32) (h1 : a1.IsWhole) (a2 : Memref sig .tc .vmem S1x12800 .f32) (h2 : a2.IsWhole)
  (a3 : Memref sig .tc .vmem S64x1 .i32) (h3 : a3.IsWhole) (a4 : Memref sig .tc .vmem S64x12800 .f32) (h4 : a4.IsWhole)
  (a5 : Memref sig .tc .vmem S64x1280 .f32) (h5 : a5.IsWhole) (a6 : Memref sig .tc .vmem S64x1280 .i32) (h6 : a6.IsWhole)

/-! ## The words -/

/-- The word lanes of a trip of the masked loop. -/
def wordsA (i : grid0.Coords) (k : Fin k0_t1_loop.trips) : IVec S64x1280 32 :=
  let a := k0_pay19 (k0_pay3 i) 0#32 1#32 k
  let b := k0_pay20 (k0_pay3 i) 0#32 1#32 k
  let a' := k0_pay30 (Scalar.addi 466689008#32 1#32) a b
  let b' := k0_pay31 (Scalar.addi 466689008#32 1#32) a b
  let d' := k0_pay32 (Scalar.addi 466689008#32 1#32) a b
  k0_pay46 (Scalar.addi 466689008#32 4#32) (k0_pay44 (Scalar.addi 42#32 3#32) a' b' d') (k0_pay45 (Scalar.addi 42#32 3#32) a' b' d')

/-- The float lanes in [1, 2) that a trip of the plain loop draws. -/
def drawB (i : grid0.Coords) (k : Fin k0_t2_loop.trips) : FVec F S64x1280 .f32 :=
  let a := k0_pay54 (k0_pay3 i) 0#32 1#32 k
  let b := k0_pay55 (k0_pay3 i) 0#32 1#32 k
  let d := k0_pay56 (k0_pay3 i) 0#32 1#32 k
  let a' := k0_pay68 (Scalar.addi 466689008#32 1#32) a b d k0_pay57
  let b' := k0_pay69 (Scalar.addi 466689008#32 1#32) a b d k0_pay57
  k0_pay83 (Scalar.addi 466689008#32 4#32) (k0_pay80 (Scalar.addi 42#32 3#32) a' b') (k0_pay81 (Scalar.addi 42#32 3#32) a' b')
    (k0_pay82 (Scalar.addi 42#32 3#32) a' b') 8#32

/-! ## The masked loop -/

/-- The rows that trip `k` of the masked loop stores. -/
def rowsA (i : grid0.Coords) (a1 : Memref sig .tc .vmem S64x12800 .f32) (a2 : Memref sig .tc .vmem S1x12800 .f32) (hc : k0_cond2 i = 1#1)
    (X1 : BufTy.Contents (Elt F) a1.view.ty) (X2 : BufTy.Contents (Elt F) a2.view.ty) (k : Fin k0_t1_loop.trips) : FVec F S64x1280 .f32 :=
  k0_pay13 (a1.view.readAt (Elt F) (Rect.unit (s := S64x12800) (k0_off1 k) S64x1280.size (k0_off1_inb i k hc)).toLoadRect X1)
    (a2.view.readAt (Elt F) (Rect.unit (s := S1x12800) (k0_off2 k) S1x1280.size (k0_off2_inb i k hc)).toLoadRect X2)

/-- The scores of trip `k` of the masked loop. -/
def scoreA (i : grid0.Coords) (a1 : Memref sig .tc .vmem S64x12800 .f32) (a2 : Memref sig .tc .vmem S1x12800 .f32) (hc : k0_cond2 i = 1#1)
    (X1 : BufTy.Contents (Elt F) a1.view.ty) (X2 : BufTy.Contents (Elt F) a2.view.ty) (k : Fin k0_t1_loop.trips) : FVec F S64x1280 .f32 :=
  k0_pay4 (rowsA i a1 a2 hc X1 X2 k) (wordsA i k) k0_pay47

/-- What trip `k` stores in the maxima: the first half of `push`. -/
theorem maxA (hc : k0_cond2 i = 1#1) (X1 : BufTy.Contents (Elt F) a1.view.ty) (X2 : BufTy.Contents (Elt F) a2.view.ty) (k : Fin k0_t1_loop.trips)
    (m : FVec F S64x1280 .f32) (t : IVec S64x1280 32) :
    (k0_pay6 (rowsA i a1 a2 hc X1 X2 k) (wordsA i k) k0_pay47 m : FVec F S64x1280 .f32) = (push (scoreA i a1 a2 hc X1 X2 k) (mark i k.val) (m, t)).1 := by
  unfold k0_pay6
  exact shapeCast_self _ _

/-- What trip `k` stores in the marks: the second half of `push`. -/
theorem markA (hc : k0_cond2 i = 1#1) (X1 : BufTy.Contents (Elt F) a1.view.ty) (X2 : BufTy.Contents (Elt F) a2.view.ty) (k : Fin k0_t1_loop.trips)
    (m : FVec F S64x1280 .f32) (t : IVec S64x1280 32) :
    (k0_pay7 i (Scf.iv 0#32 1#32 k.val) (rowsA i a1 a2 hc X1 X2 k) (wordsA i k) k0_pay47 m t : IVec S64x1280 32) = (push (scoreA i a1 a2 hc X1 X2 k) (mark i k.val) (m, t)).2 := by
  unfold k0_pay7
  exact shapeCast_self _ _

/-- The stores of trip `k` of the masked loop: one tile of the block, and both scratch buffers whole. -/
theorem piecesA (hc : k0_cond2 i = 1#1) (X1 : BufTy.Contents (Elt F) a1.view.ty) (X2 : BufTy.Contents (Elt F) a2.view.ty) (k : Fin k0_t1_loop.trips)
    (f4 : BufTy.Contents (Elt F) a4.view.ty) (f5 : BufTy.Contents (Elt F) a5.view.ty) (f6 : BufTy.Contents (Elt F) a6.view.ty) :
    tripL_k0_t1 𝒱 c bd i a1 h1 a2 h2 a3 h3 a4 h4 a5 h5 a6 h6 hc X1 X2 k f4 f5 f6
      = ([⟨Rect.unit (s := S64x12800) (k0_off1 k) S64x1280.size (k0_off1_inb i k hc), rowsA i a1 a2 hc X1 X2 k⟩],
         [⟨Rect.unit (s := S64x1280) ![0, 0] S64x1280.size inb_S64x1280_S64x1280_0_0,
            (push (scoreA i a1 a2 hc X1 X2 k) (mark i k.val) (a5.view.read (Elt F) f5, a6.view.read (Elt F) f6)).1⟩],
         [⟨Rect.unit (s := S64x1280) ![0, 0] S64x1280.size inb_S64x1280_S64x1280_0_0,
            (push (scoreA i a1 a2 hc X1 X2 k) (mark i k.val) (a5.view.read (Elt F) f5, a6.view.read (Elt F) f6)).2⟩]) := by
  rw [← maxA i a1 a2 hc X1 X2 k, ← markA i a1 a2 hc X1 X2 k,
    ← View.readAt_full a5.view f5 inb_S64x1280_S64x1280_0_0, ← View.readAt_full a6.view f6 inb_S64x1280_S64x1280_0_0]
  unfold tripL_k0_t1 trip_k0_t1
  rfl

/-- Where trip `k` of the masked loop stores: at column `1280·k`. -/
theorem offA : ∀ k : Fin k0_t1_loop.trips, k0_off1 k = ![0, 1280 * k.val] := by decide +kernel

/-- The trips of the masked loop are ten. -/
theorem tripsA : k0_t1_loop.trips = 10 := by decide +kernel

/-- After `n` trips of the masked loop: the scratch buffers hold the fold of the first `n` tiles, and the block's first
    `1280·n` columns hold the rows `G`. -/
theorem afterA (hc : k0_cond2 i = 1#1) (X1 : BufTy.Contents (Elt F) a1.view.ty) (X2 : BufTy.Contents (Elt F) a2.view.ty)
    (G4 : BufTy.Contents (Elt F) a4.view.ty) (G5 : BufTy.Contents (Elt F) a5.view.ty) (G6 : BufTy.Contents (Elt F) a6.view.ty)
    (s : ℕ → FVec F S64x1280 .f32) (hs : ∀ k : Fin k0_t1_loop.trips, scoreA i a1 a2 hc X1 X2 k = s k.val)
    (G : S64x12800.Idx → F .f32)
    (hG : ∀ (k : Fin k0_t1_loop.trips) (j : S64x1280.Idx) (y : S64x12800.Idx), (y 0).val = (j 0).val →
      (y 1).val = 1280 * k.val + (j 1).val → rowsA i a1 a2 hc X1 X2 k j = G y) : ∀ n ≤ 10,
    a5.view.read (Elt F) (a5.view.writes (Elt F) G5 (pb_k0_t1 𝒱 c bd i a1 h1 a2 h2 a3 h3 a4 h4 a5 h5 a6 h6 hc X1 X2 G4 G5 G6 n).2.1)
        = (tiles s (mark i) (a5.view.read (Elt F) G5, a6.view.read (Elt F) G6) n).1
      ∧ a6.view.read (Elt F) (a6.view.writes (Elt F) G6 (pb_k0_t1 𝒱 c bd i a1 h1 a2 h2 a3 h3 a4 h4 a5 h5 a6 h6 hc X1 X2 G4 G5 G6 n).2.2)
        = (tiles s (mark i) (a5.view.read (Elt F) G5, a6.view.read (Elt F) G6) n).2
      ∧ ∀ y : S64x12800.Idx, (y 1).val < 1280 * n →
        a4.view.read (Elt F) (a4.view.writes (Elt F) G4 (pb_k0_t1 𝒱 c bd i a1 h1 a2 h2 a3 h3 a4 h4 a5 h5 a6 h6 hc X1 X2 G4 G5 G6 n).1) y = G y
  | 0, _ => ⟨rfl, rfl, fun y hy => by omega⟩
  | n + 1, hn => by
    obtain ⟨ih5, ih6, ih4⟩ := afterA hc X1 X2 G4 G5 G6 s hs G hG n (by omega)
    have hk : n < k0_t1_loop.trips := by rw [tripsA]; omega
    have hsucc := pb_k0_t1_succ 𝒱 c bd i a1 h1 a2 h2 a3 h3 a4 h4 a5 h5 a6 h6 hc X1 X2 G4 G5 G6 ⟨n, hk⟩
    rw [piecesA] at hsucc
    simp only [List.singleton_append] at hsucc
    rw [hsucc]
    have hp : (a5.view.read (Elt F) (a5.view.writes (Elt F) G5 (pb_k0_t1 𝒱 c bd i a1 h1 a2 h2 a3 h3 a4 h4 a5 h5 a6 h6 hc X1 X2 G4 G5 G6 n).2.1),
        a6.view.read (Elt F) (a6.view.writes (Elt F) G6 (pb_k0_t1 𝒱 c bd i a1 h1 a2 h2 a3 h3 a4 h4 a5 h5 a6 h6 hc X1 X2 G4 G5 G6 n).2.2))
        = tiles s (mark i) (a5.view.read (Elt F) G5, a6.view.read (Elt F) G6) n := Prod.ext ih5 ih6
    have hst : push (scoreA i a1 a2 hc X1 X2 ⟨n, hk⟩) (mark i n)
        (a5.view.read (Elt F) (a5.view.writes (Elt F) G5 (pb_k0_t1 𝒱 c bd i a1 h1 a2 h2 a3 h3 a4 h4 a5 h5 a6 h6 hc X1 X2 G4 G5 G6 n).2.1),
          a6.view.read (Elt F) (a6.view.writes (Elt F) G6 (pb_k0_t1 𝒱 c bd i a1 h1 a2 h2 a3 h3 a4 h4 a5 h5 a6 h6 hc X1 X2 G4 G5 G6 n).2.2))
        = tiles s (mark i) (a5.view.read (Elt F) G5, a6.view.read (Elt F) G6) (n + 1) := by
      rw [hp, hs]; rfl
    refine ⟨?_, ?_, fun y hy => ?_⟩
    · refine (View.read_writes_full a5.view G5 inb_S64x1280_S64x1280_0_0 _ _).trans ?_
      exact congrArg Prod.fst hst
    · refine (View.read_writes_full a6.view G6 inb_S64x1280_S64x1280_0_0 _ _).trans ?_
      exact congrArg Prod.snd hst
    · by_cases hl : (y 1).val < 1280 * n
      · refine (View.read_writes_cons_unit_of_not_mem a4.view G4 _ _ _ y (offA ⟨n, hk⟩) 1 (.inl ?_)).trans (ih4 y hl)
        exact hl
      · have h0 : (y 0).val < 64 := (y 0).isLt
        have hlt : (y 1).val - 1280 * n < 1280 := by omega
        let j : S64x1280.Idx := fun a => match a with
          | ⟨0, _⟩ => (⟨(y 0).val, h0⟩ : Fin 64)
          | ⟨1, _⟩ => (⟨(y 1).val - 1280 * n, hlt⟩ : Fin 1280)
        refine (View.read_writes_cons_unit_of_mem a4.view G4 _ _ _ y j (offA ⟨n, hk⟩) ?_).trans
          (hG ⟨n, hk⟩ j y rfl ?_)
        · intro a
          match a with
          | ⟨0, _⟩ => show (y 0).val = 0 + (y 0).val; omega
          | ⟨1, _⟩ => show (y 1).val = 1280 * n + ((y 1).val - 1280 * n); omega
        · show (y 1).val = 1280 * n + ((y 1).val - 1280 * n); omega

/-! ## The plain loop -/

/-- The rows that trip `k` of the plain loop stores. -/
def rowsB (i : grid0.Coords) (a1 : Memref sig .tc .vmem S64x12800 .f32) (hc : k0_cond3 i = 1#1)
    (X1 : BufTy.Contents (Elt F) a1.view.ty) (k : Fin k0_t2_loop.trips) : FVec F S64x1280 .f32 :=
  (a1.view.readAt (Elt F) (Rect.unit (s := S64x12800) (k0_off3 k) S64x1280.size (k0_off3_inb i k hc)).toLoadRect X1)

/-- The scores of trip `k` of the plain loop. -/
def scoreB (i : grid0.Coords) (a1 : Memref sig .tc .vmem S64x12800 .f32) (hc : k0_cond3 i = 1#1)
    (X1 : BufTy.Contents (Elt F) a1.view.ty) (k : Fin k0_t2_loop.trips) : FVec F S64x1280 .f32 :=
  k0_pay8 (rowsB i a1 hc X1 k) (drawB i k) (Scalar.ofBits .f32 0x3F800000#32)

/-- What trip `k` stores in the maxima: the first half of `push`. -/
theorem maxB (hc : k0_cond3 i = 1#1) (X1 : BufTy.Contents (Elt F) a1.view.ty) (k : Fin k0_t2_loop.trips)
    (m : FVec F S64x1280 .f32) (t : IVec S64x1280 32) :
    (k0_pay10 (rowsB i a1 hc X1 k) (drawB i k) (Scalar.ofBits .f32 0x3F800000#32) m : FVec F S64x1280 .f32) = (push (scoreB i a1 hc X1 k) (mark i k.val) (m, t)).1 := by
  unfold k0_pay10
  exact shapeCast_self _ _

/-- What trip `k` stores in the marks: the second half of `push`. -/
theorem markB (hc : k0_cond3 i = 1#1) (X1 : BufTy.Contents (Elt F) a1.view.ty) (k : Fin k0_t2_loop.trips)
    (m : FVec F S64x1280 .f32) (t : IVec S64x1280 32) :
    (k0_pay11 i (Scf.iv 0#32 1#32 k.val) (rowsB i a1 hc X1 k) (drawB i k) (Scalar.ofBits .f32 0x3F800000#32) m t : IVec S64x1280 32) = (push (scoreB i a1 hc X1 k) (mark i k.val) (m, t)).2 := by
  unfold k0_pay11
  exact shapeCast_self _ _

/-- The stores of trip `k` of the plain loop: one tile of the block, and both scratch buffers whole. -/
theorem piecesB (hc : k0_cond3 i = 1#1) (X1 : BufTy.Contents (Elt F) a1.view.ty) (k : Fin k0_t2_loop.trips)
    (f4 : BufTy.Contents (Elt F) a4.view.ty) (f5 : BufTy.Contents (Elt F) a5.view.ty) (f6 : BufTy.Contents (Elt F) a6.view.ty) :
    tripL_k0_t2 𝒱 c bd i a1 h1 a2 h2 a3 h3 a4 h4 a5 h5 a6 h6 hc X1 k f4 f5 f6
      = ([⟨Rect.unit (s := S64x12800) (k0_off3 k) S64x1280.size (k0_off3_inb i k hc), rowsB i a1 hc X1 k⟩],
         [⟨Rect.unit (s := S64x1280) ![0, 0] S64x1280.size inb_S64x1280_S64x1280_0_0,
            (push (scoreB i a1 hc X1 k) (mark i k.val) (a5.view.read (Elt F) f5, a6.view.read (Elt F) f6)).1⟩],
         [⟨Rect.unit (s := S64x1280) ![0, 0] S64x1280.size inb_S64x1280_S64x1280_0_0,
            (push (scoreB i a1 hc X1 k) (mark i k.val) (a5.view.read (Elt F) f5, a6.view.read (Elt F) f6)).2⟩]) := by
  rw [← maxB i a1 hc X1 k, ← markB i a1 hc X1 k,
    ← View.readAt_full a5.view f5 inb_S64x1280_S64x1280_0_0, ← View.readAt_full a6.view f6 inb_S64x1280_S64x1280_0_0]
  unfold tripL_k0_t2 trip_k0_t2
  rfl

/-- Where trip `k` of the plain loop stores: at column `1280·k`. -/
theorem offB : ∀ k : Fin k0_t2_loop.trips, k0_off3 k = ![0, 1280 * k.val] := by decide +kernel

/-- The trips of the plain loop are ten. -/
theorem tripsB : k0_t2_loop.trips = 10 := by decide +kernel

/-- After `n` trips of the plain loop: the scratch buffers hold the fold of the first `n` tiles, and the block's first
    `1280·n` columns hold the rows `G`. -/
theorem afterB (hc : k0_cond3 i = 1#1) (X1 : BufTy.Contents (Elt F) a1.view.ty)
    (G4 : BufTy.Contents (Elt F) a4.view.ty) (G5 : BufTy.Contents (Elt F) a5.view.ty) (G6 : BufTy.Contents (Elt F) a6.view.ty)
    (s : ℕ → FVec F S64x1280 .f32) (hs : ∀ k : Fin k0_t2_loop.trips, scoreB i a1 hc X1 k = s k.val)
    (G : S64x12800.Idx → F .f32)
    (hG : ∀ (k : Fin k0_t2_loop.trips) (j : S64x1280.Idx) (y : S64x12800.Idx), (y 0).val = (j 0).val →
      (y 1).val = 1280 * k.val + (j 1).val → rowsB i a1 hc X1 k j = G y) : ∀ n ≤ 10,
    a5.view.read (Elt F) (a5.view.writes (Elt F) G5 (pb_k0_t2 𝒱 c bd i a1 h1 a2 h2 a3 h3 a4 h4 a5 h5 a6 h6 hc X1 G4 G5 G6 n).2.1)
        = (tiles s (mark i) (a5.view.read (Elt F) G5, a6.view.read (Elt F) G6) n).1
      ∧ a6.view.read (Elt F) (a6.view.writes (Elt F) G6 (pb_k0_t2 𝒱 c bd i a1 h1 a2 h2 a3 h3 a4 h4 a5 h5 a6 h6 hc X1 G4 G5 G6 n).2.2)
        = (tiles s (mark i) (a5.view.read (Elt F) G5, a6.view.read (Elt F) G6) n).2
      ∧ ∀ y : S64x12800.Idx, (y 1).val < 1280 * n →
        a4.view.read (Elt F) (a4.view.writes (Elt F) G4 (pb_k0_t2 𝒱 c bd i a1 h1 a2 h2 a3 h3 a4 h4 a5 h5 a6 h6 hc X1 G4 G5 G6 n).1) y = G y
  | 0, _ => ⟨rfl, rfl, fun y hy => by omega⟩
  | n + 1, hn => by
    obtain ⟨ih5, ih6, ih4⟩ := afterB hc X1 G4 G5 G6 s hs G hG n (by omega)
    have hk : n < k0_t2_loop.trips := by rw [tripsB]; omega
    have hsucc := pb_k0_t2_succ 𝒱 c bd i a1 h1 a2 h2 a3 h3 a4 h4 a5 h5 a6 h6 hc X1 G4 G5 G6 ⟨n, hk⟩
    rw [piecesB] at hsucc
    simp only [List.singleton_append] at hsucc
    rw [hsucc]
    have hp : (a5.view.read (Elt F) (a5.view.writes (Elt F) G5 (pb_k0_t2 𝒱 c bd i a1 h1 a2 h2 a3 h3 a4 h4 a5 h5 a6 h6 hc X1 G4 G5 G6 n).2.1),
        a6.view.read (Elt F) (a6.view.writes (Elt F) G6 (pb_k0_t2 𝒱 c bd i a1 h1 a2 h2 a3 h3 a4 h4 a5 h5 a6 h6 hc X1 G4 G5 G6 n).2.2))
        = tiles s (mark i) (a5.view.read (Elt F) G5, a6.view.read (Elt F) G6) n := Prod.ext ih5 ih6
    have hst : push (scoreB i a1 hc X1 ⟨n, hk⟩) (mark i n)
        (a5.view.read (Elt F) (a5.view.writes (Elt F) G5 (pb_k0_t2 𝒱 c bd i a1 h1 a2 h2 a3 h3 a4 h4 a5 h5 a6 h6 hc X1 G4 G5 G6 n).2.1),
          a6.view.read (Elt F) (a6.view.writes (Elt F) G6 (pb_k0_t2 𝒱 c bd i a1 h1 a2 h2 a3 h3 a4 h4 a5 h5 a6 h6 hc X1 G4 G5 G6 n).2.2))
        = tiles s (mark i) (a5.view.read (Elt F) G5, a6.view.read (Elt F) G6) (n + 1) := by
      rw [hp, hs]; rfl
    refine ⟨?_, ?_, fun y hy => ?_⟩
    · refine (View.read_writes_full a5.view G5 inb_S64x1280_S64x1280_0_0 _ _).trans ?_
      exact congrArg Prod.fst hst
    · refine (View.read_writes_full a6.view G6 inb_S64x1280_S64x1280_0_0 _ _).trans ?_
      exact congrArg Prod.snd hst
    · by_cases hl : (y 1).val < 1280 * n
      · refine (View.read_writes_cons_unit_of_not_mem a4.view G4 _ _ _ y (offB ⟨n, hk⟩) 1 (.inl ?_)).trans (ih4 y hl)
        exact hl
      · have h0 : (y 0).val < 64 := (y 0).isLt
        have hlt : (y 1).val - 1280 * n < 1280 := by omega
        let j : S64x1280.Idx := fun a => match a with
          | ⟨0, _⟩ => (⟨(y 0).val, h0⟩ : Fin 64)
          | ⟨1, _⟩ => (⟨(y 1).val - 1280 * n, hlt⟩ : Fin 1280)
        refine (View.read_writes_cons_unit_of_mem a4.view G4 _ _ _ y j (offB ⟨n, hk⟩) ?_).trans
          (hG ⟨n, hk⟩ j y rfl ?_)
        · intro a
          match a with
          | ⟨0, _⟩ => show (y 0).val = 0 + (y 0).val; omega
          | ⟨1, _⟩ => show (y 1).val = 1280 * n + ((y 1).val - 1280 * n); omega
        · show (y 1).val = 1280 * n + ((y 1).val - 1280 * n); omega

end Cert.Sample.Loop

end
-- ==== Proof.Sample.Body.lean ====
/- The kernel body as a triple with its contents named, in its three shapes: the first point, a middle one and the last. -/
module

public import proofs.«01_k».proof.Proof.Gen.KernelIdeal.Frame
public import proofs.«01_k».proof.Proof.Gen.KernelIdeal.Loops
public import proofs.«01_k».proof.Proof.Sample.Loop

@[expose] public section

noncomputable section

namespace Cert.Sample.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.Sample.Loop

variable {F : FTy → Type} [FloatOps F] [Named F]

local notation "𝕄" => MT nD τ sig Unit (Elt F) ℕ (UR sig nD τ) ℕ

/-- The kernel has no loop variants of its own. -/
abbrev 𝒱₀ : Variants := Variants.none

/-- A memref's elements at contents `f`. -/
abbrev at_ (c : Dev nD) {sp : Space} {s : Shape} {e : EltTy} (a : Memref sig .tc sp s e) (f : BufTy.Contents (Elt F) a.view.ty) : sProp 𝕄 :=
  iprop(a.view.loc (c : Thread nD τ) ↦[a.view.set]{fullShare} f)

/-- A memref's elements at contents that read as something `P` holds of. -/
abbrev such (c : Dev nD) {sp : Space} {s : Shape} {e : EltTy} (a : Memref sig .tc sp s e) (P : (s.Idx → Elt F e) → Prop) : sProp 𝕄 :=
  iprop(∃ f, ⌜P (a.view.read (Elt F) f)⌝ ∗ a.view.loc (c : Thread nD τ) ↦[a.view.set]{fullShare} f)

variable (c : Dev nD) (i : grid0.Coords) (arg1 : Memref sig .tc .vmem S64x12800 .f32) (harg1 : arg1.IsWhole)
    (arg2 : Memref sig .tc .vmem S1x12800 .f32) (harg2 : arg2.IsWhole) (arg3 : Memref sig .tc .vmem S64x1 .i32) (harg3 : arg3.IsWhole)
    (arg4 : Memref sig .tc .vmem S64x12800 .f32) (harg4 : arg4.IsWhole) (arg5 : Memref sig .tc .vmem S64x1280 .f32) (harg5 : arg5.IsWhole)
    (arg6 : Memref sig .tc .vmem S64x1280 .i32) (harg6 : arg6.IsWhole)

/-- The body at a middle point: the plain loop alone. -/
theorem body_middle (hc1 : ¬Scalar.cmpi .ne (Scalar.extui (Scalar.cmpi .eq (BitVec.ofNat 32 (i 0).val) 0#32) : BitVec 32) 0#32 = 1#1)
    (hc2 : ¬k0_cond2 i = 1#1) (hc3 : k0_cond3 i = 1#1) (hc4 : ¬k0_cond4 i = 1#1)
    (f1 : BufTy.Contents (Elt F) arg1.view.ty) (f2 : BufTy.Contents (Elt F) arg2.view.ty)
    (f3 : BufTy.Contents (Elt F) arg3.view.ty) (f4 : BufTy.Contents (Elt F) arg4.view.ty)
    (f5 : BufTy.Contents (Elt F) arg5.view.ty) (f6 : BufTy.Contents (Elt F) arg6.view.ty)
    (s : ℕ → FVec F S64x1280 .f32) (hs : ∀ k : Fin k0_t2_loop.trips, scoreB i arg1 hc3 f1 k = s k.val)
    (G : S64x12800.Idx → F .f32)
    (hG : ∀ (k : Fin k0_t2_loop.trips) (j : S64x1280.Idx) (y : S64x12800.Idx), (y 0).val = (j 0).val →
      (y 1).val = 1280 * k.val + (j 1).val → rowsB i arg1 hc3 f1 k j = G y) :
    (iprop(at_ c arg1 f1 ∗ at_ c arg2 f2 ∗ at_ c arg3 f3 ∗ at_ c arg4 f4 ∗ at_ c arg5 f5 ∗ at_ c arg6 f6) : sProp 𝕄)
      ⊢ wp frame (wpE (defs₀ (F := F)) 𝒱₀ c none) Set.univ
          (cc0__body i arg1 harg1 arg2 harg2 arg3 harg3 arg4 harg4 arg5 harg5 arg6 harg6)
          fun _ => iprop(at_ c arg1 f1 ∗ at_ c arg2 f2 ∗ at_ c arg3 f3
            ∗ such c arg4 (fun Y => ∀ y, Y y = G y)
            ∗ such c arg5 (fun Y => Y = (tiles s (mark i) (arg5.view.read (Elt F) f5, arg6.view.read (Elt F) f6) 10).1) ∗ such c arg6 (fun Y => Y = (tiles s (mark i) (arg5.view.read (Elt F) f5, arg6.view.read (Elt F) f6) 10).2)) := by
  rw [cc0__body_eq_skeleton]; unfold cc0__body_skel
  iintro ⟨H1, H2, H3, H4, H5, H6⟩
  sl_exec
  sl_step
  rw [show Scf.trips k0_t2_loop.lb k0_t2_loop.ub k0_t2_loop.st = 10 from tripsB]
  have h := afterB 𝒱₀ c none i arg1 harg1 arg2 harg2 arg3 harg3 arg4 harg4 arg5 harg5 arg6 harg6 hc3 f1 f4 f5 f6 s hs G hG 10 le_rfl
  isplitl [H1]; · iexact H1
  isplitl [H2]; · iexact H2
  isplitl [H3]
  · iexact H3
  isplitl [H4]
  · iexists _; isplitr; swap
    · iexact H4
    · ipureintro; exact fun y => h.2.2 y (by have := (y 1).isLt; exact this)
  isplitl [H5]
  · iexists _; isplitr; swap
    · iexact H5
    · ipureintro; exact h.1
  · iexists _; isplitr; swap
    · iexact H6
    · ipureintro; exact h.2.1

/-- The body at the first point: the scratch buffers are filled, then the masked loop. -/
theorem body_first (hc1 : Scalar.cmpi .ne (Scalar.extui (Scalar.cmpi .eq (BitVec.ofNat 32 (i 0).val) 0#32) : BitVec 32) 0#32 = 1#1)
    (hc2 : k0_cond2 i = 1#1) (hc3 : ¬k0_cond3 i = 1#1) (hc4 : ¬k0_cond4 i = 1#1)
    (f1 : BufTy.Contents (Elt F) arg1.view.ty) (f2 : BufTy.Contents (Elt F) arg2.view.ty)
    (f3 : BufTy.Contents (Elt F) arg3.view.ty) (f4 : BufTy.Contents (Elt F) arg4.view.ty)
    (f5 : BufTy.Contents (Elt F) arg5.view.ty) (f6 : BufTy.Contents (Elt F) arg6.view.ty)
    (s : ℕ → FVec F S64x1280 .f32) (hs : ∀ k : Fin k0_t1_loop.trips, scoreA i arg1 arg2 hc2 f1 f2 k = s k.val)
    (G : S64x12800.Idx → F .f32)
    (hG : ∀ (k : Fin k0_t1_loop.trips) (j : S64x1280.Idx) (y : S64x12800.Idx), (y 0).val = (j 0).val →
      (y 1).val = 1280 * k.val + (j 1).val → rowsA i arg1 arg2 hc2 f1 f2 k j = G y) :
    (iprop(at_ c arg1 f1 ∗ at_ c arg2 f2 ∗ at_ c arg3 f3 ∗ at_ c arg4 f4 ∗ at_ c arg5 f5 ∗ at_ c arg6 f6) : sProp 𝕄)
      ⊢ wp frame (wpE (defs₀ (F := F)) 𝒱₀ c none) Set.univ
          (cc0__body i arg1 harg1 arg2 harg2 arg3 harg3 arg4 harg4 arg5 harg5 arg6 harg6)
          fun _ => iprop(at_ c arg1 f1 ∗ at_ c arg2 f2 ∗ at_ c arg3 f3
            ∗ such c arg4 (fun Y => ∀ y, Y y = G y)
            ∗ such c arg5 (fun Y => Y = (tiles s (mark i) (k0_pay1, k0_pay2) 10).1) ∗ such c arg6 (fun Y => Y = (tiles s (mark i) (k0_pay1, k0_pay2) 10).2)) := by
  rw [cc0__body_eq_skeleton]; unfold cc0__body_skel
  iintro ⟨H1, H2, H3, H4, H5, H6⟩
  sl_exec
  sl_step
  rw [show Scf.trips k0_t1_loop.lb k0_t1_loop.ub k0_t1_loop.st = 10 from tripsA]
  unfold body_first.sl.H5_1 body_first.sl.H6_1
  have h := afterA 𝒱₀ c none i arg1 harg1 arg2 harg2 arg3 harg3 arg4 harg4 arg5 harg5 arg6 harg6 hc2 f1 f2 f4
    (arg5.view.writes (Elt F) arg5.view.junk [⟨Rect.unit (s := S64x1280) ![0, 0] S64x1280.size inb_S64x1280_S64x1280_0_0, k0_pay1⟩])
    (arg6.view.writes (Elt F) arg6.view.junk [⟨Rect.unit (s := S64x1280) ![0, 0] S64x1280.size inb_S64x1280_S64x1280_0_0, k0_pay2⟩]) s hs G hG 10 le_rfl
  have e5 : arg5.view.read (Elt F) (arg5.view.writes (Elt F) arg5.view.junk [⟨Rect.unit (s := S64x1280) ![0, 0] S64x1280.size inb_S64x1280_S64x1280_0_0, k0_pay1⟩]) = k0_pay1 :=
    View.read_writes_full arg5.view _ inb_S64x1280_S64x1280_0_0 _ _
  have e6 : arg6.view.read (Elt F) (arg6.view.writes (Elt F) arg6.view.junk [⟨Rect.unit (s := S64x1280) ![0, 0] S64x1280.size inb_S64x1280_S64x1280_0_0, k0_pay2⟩]) = k0_pay2 :=
    View.read_writes_full arg6.view _ inb_S64x1280_S64x1280_0_0 _ _
  rw [e5, e6] at h
  clear e5 e6
  rw [View.writes_append]
  rw [View.writes_append]
  isplitl [H1]; · iexact H1
  isplitl [H2]; · iexact H2
  isplitl [H3]
  · iexact H3
  isplitl [H4]
  · iexists _; isplitr; swap
    · iexact H4
    · ipureintro; exact fun y => h.2.2 y (by have := (y 1).isLt; exact this)
  isplitl [H5]
  · iexists _; isplitr; swap
    · iexact H5
    · ipureintro; exact h.1
  · iexists _; isplitr; swap
    · iexact H6
    · ipureintro; exact h.2.1

/-- The body at the last point: the masked loop, then the places are stored. -/
theorem body_last (hc1 : ¬Scalar.cmpi .ne (Scalar.extui (Scalar.cmpi .eq (BitVec.ofNat 32 (i 0).val) 0#32) : BitVec 32) 0#32 = 1#1)
    (hc2 : k0_cond2 i = 1#1) (hc3 : ¬k0_cond3 i = 1#1) (hc4 : k0_cond4 i = 1#1)
    (f1 : BufTy.Contents (Elt F) arg1.view.ty) (f2 : BufTy.Contents (Elt F) arg2.view.ty)
    (f3 : BufTy.Contents (Elt F) arg3.view.ty) (f4 : BufTy.Contents (Elt F) arg4.view.ty)
    (f5 : BufTy.Contents (Elt F) arg5.view.ty) (f6 : BufTy.Contents (Elt F) arg6.view.ty)
    (s : ℕ → FVec F S64x1280 .f32) (hs : ∀ k : Fin k0_t1_loop.trips, scoreA i arg1 arg2 hc2 f1 f2 k = s k.val)
    (G : S64x12800.Idx → F .f32)
    (hG : ∀ (k : Fin k0_t1_loop.trips) (j : S64x1280.Idx) (y : S64x12800.Idx), (y 0).val = (j 0).val →
      (y 1).val = 1280 * k.val + (j 1).val → rowsA i arg1 arg2 hc2 f1 f2 k j = G y) :
    (iprop(at_ c arg1 f1 ∗ at_ c arg2 f2 ∗ at_ c arg3 f3 ∗ at_ c arg4 f4 ∗ at_ c arg5 f5 ∗ at_ c arg6 f6) : sProp 𝕄)
      ⊢ wp frame (wpE (defs₀ (F := F)) 𝒱₀ c none) Set.univ
          (cc0__body i arg1 harg1 arg2 harg2 arg3 harg3 arg4 harg4 arg5 harg5 arg6 harg6)
          fun _ => iprop(at_ c arg1 f1 ∗ at_ c arg2 f2 ∗ such c arg3 (fun Y => Y = k0_pay12 (tiles s (mark i) (arg5.view.read (Elt F) f5, arg6.view.read (Elt F) f6) 10).1 (tiles s (mark i) (arg5.view.read (Elt F) f5, arg6.view.read (Elt F) f6) 10).2)
            ∗ such c arg4 (fun Y => ∀ y, Y y = G y)
            ∗ such c arg5 (fun Y => Y = (tiles s (mark i) (arg5.view.read (Elt F) f5, arg6.view.read (Elt F) f6) 10).1) ∗ such c arg6 (fun Y => Y = (tiles s (mark i) (arg5.view.read (Elt F) f5, arg6.view.read (Elt F) f6) 10).2)) := by
  rw [cc0__body_eq_skeleton]; unfold cc0__body_skel
  iintro ⟨H1, H2, H3, H4, H5, H6⟩
  sl_exec
  sl_step
  rw [show Scf.trips k0_t1_loop.lb k0_t1_loop.ub k0_t1_loop.st = 10 from tripsA]
  have h := afterA 𝒱₀ c none i arg1 harg1 arg2 harg2 arg3 harg3 arg4 harg4 arg5 harg5 arg6 harg6 hc2 f1 f2 f4 f5 f6 s hs G hG 10 le_rfl
  isplitl [H1]; · iexact H1
  isplitl [H2]; · iexact H2
  isplitl [H3]
  · iexists _; isplitr; swap
    · iexact H3
    · ipureintro
      refine (View.read_writes_full arg3.view _ inb_S64x1_S64x1_0_0 _ []).trans ?_
      unfold body_last.sl.v22 body_last.sl.v23
      rw [show Scf.trips k0_t1_loop.lb k0_t1_loop.ub k0_t1_loop.st = 10 from tripsA]
      exact congrArg₂ k0_pay12 ((View.readAt_full arg5.view _ inb_S64x1280_S64x1280_0_0).trans h.1)
        ((View.readAt_full arg6.view _ inb_S64x1280_S64x1280_0_0).trans h.2.1)
  isplitl [H4]
  · iexists _; isplitr; swap
    · iexact H4
    · ipureintro; exact fun y => h.2.2 y (by have := (y 1).isLt; exact this)
  isplitl [H5]
  · iexists _; isplitr; swap
    · iexact H5
    · ipureintro; exact h.1
  · iexists _; isplitr; swap
    · iexact H6
    · ipureintro; exact h.2.1

end Cert.Sample.Body
-- ==== Proof.Sample.Words.lean ====
/- The cipher on single words: one round, the key injections and the whole, in the order the kernel computes them and
   with the key written out. -/
module

public import Idealize.ShloMosaic.Lib.Pipeline.Value

@[expose] public section

namespace Cert.Sample.Word

open Idealize.ShloMosaic

/-- The pair of words the cipher turns. -/
abbrev Pair : Type := BitVec 32 × BitVec 32

/-- One round: the first word takes the sum, the second is rotated and crossed with the sum. -/
def turn (n n' : BitVec 32) (p : Pair) : Pair := (p.1 + p.2, (p.2 <<< n ||| p.2 >>> n') ^^^ (p.1 + p.2))

/-- A left shift by less than the width, on either unit. -/
theorem shl_of_lt (u : ArithUnit) (x n : BitVec 32) (h : n.toNat < 32) : IntOp.shli u x n = x <<< n := if_pos h

/-- A right shift by less than the width, on either unit. -/
theorem shr_of_lt (u : ArithUnit) (x n : BitVec 32) (h : n.toNat < 32) : IntOp.shrui u x n = x >>> n := if_pos h

/-- A round as the vector unit's operations. -/
theorem turn_vector (n n' : BitVec 32) (p : Pair) (h : n.toNat < 32) (h' : n'.toNat < 32) :
    (IntOp.addi p.1 p.2, IntOp.xori (IntOp.ori (IntOp.shli .vector p.2 n) (IntOp.shrui .vector p.2 n')) (IntOp.addi p.1 p.2))
      = turn n n' p := by
  rw [shl_of_lt _ _ _ h, shr_of_lt _ _ _ h']; rfl

/-- A key injection: a key word into each, and the count into the second. -/
def inject (n k k' : BitVec 32) (p : Pair) : Pair := (p.1 + k, p.2 + k' + n)

/-- Four rounds of the first kind. -/
def fours (p : Pair) : Pair := turn 6#32 26#32 (turn 26#32 6#32 (turn 15#32 17#32 (turn 13#32 19#32 p)))

/-- Four rounds of the second kind. -/
def fours' (p : Pair) : Pair := turn 24#32 8#32 (turn 16#32 16#32 (turn 29#32 3#32 (turn 17#32 15#32 p)))

/-- The cipher of the counter pair `p` under the key `k`, `k'`. -/
def cipher (k k' : BitVec 32) (p : Pair) : Pair :=
  let k'' := k ^^^ k' ^^^ 466688986#32
  inject 5#32 k'' k (fours (inject 4#32 k' k'' (fours' (inject 3#32 k k' (fours (inject 2#32 k'' k (fours'
    (inject 1#32 k' k'' (fours (p.1 + k, p.2 + k'))))))))))

/-- The word drawn at flat index `b`: both halves of the cipher of `(0, b)` under the key `(0, 42)`, crossed. -/
def draw (b : BitVec 32) : BitVec 32 := (cipher 0#32 42#32 (0#32, b)).1 ^^^ (cipher 0#32 42#32 (0#32, b)).2

/-! ## The same with the constants folded -/

/-- The opening rounds on the counter that already has the key added. -/
def k1 (w : BitVec 32) : Pair := turn 26#32 6#32 (turn 15#32 17#32 (turn 13#32 19#32 (0#32, w)))

/-- From the fourth round to the second injection. -/
def k2 (p : Pair) : Pair :=
  let q := turn 24#32 8#32 (turn 16#32 16#32 (turn 29#32 3#32 (turn 17#32 15#32
    (let r := turn 6#32 26#32 p; (r.1 + 42#32, r.2 + (466689008#32 + 1#32))))))
  (q.1 + 466689008#32, q.2 + 2#32)

/-- From the second round after it, past the third injection, to the round by 29. -/
def k3 (p : Pair) : Pair :=
  turn 29#32 3#32 (turn 17#32 15#32
    (let r := turn 6#32 26#32 (turn 26#32 6#32 (turn 15#32 17#32 p)); (r.1, r.2 + (42#32 + 3#32))))

/-- The round by 24 and the fourth injection. -/
def k4 (p : Pair) : Pair := let r := turn 24#32 8#32 p; (r.1 + 42#32, r.2 + (466689008#32 + 4#32))

/-- The last four rounds and the last injection. -/
def k5 (p : Pair) : Pair := let r := fours p; (r.1 + 466689008#32, r.2 + 5#32)

/-- The cipher with the constants folded. -/
def folded (w : BitVec 32) : Pair := k5 (k4 (turn 16#32 16#32 (k3 (turn 13#32 19#32 (k2 (k1 w))))))

/-- Folding the constants changes nothing. -/
theorem folded_eq (b : BitVec 32) : folded (b + 42#32) = cipher 0#32 42#32 (0#32, b) := by
  have e1 : ∀ r : Pair, inject 1#32 42#32 466689008#32 r = (r.1 + 42#32, r.2 + (466689008#32 + 1#32)) :=
    fun r => by unfold inject; rw [BitVec.add_assoc]
  have e2 : ∀ r : Pair, inject 2#32 466689008#32 0#32 r = (r.1 + 466689008#32, r.2 + 2#32) :=
    fun r => by unfold inject; rw [BitVec.add_zero]
  have e3 : ∀ r : Pair, inject 3#32 0#32 42#32 r = (r.1, r.2 + (42#32 + 3#32)) :=
    fun r => by unfold inject; rw [BitVec.add_zero, BitVec.add_assoc]
  have e4 : ∀ r : Pair, inject 4#32 42#32 466689008#32 r = (r.1 + 42#32, r.2 + (466689008#32 + 4#32)) :=
    fun r => by unfold inject; rw [BitVec.add_assoc]
  have e5 : ∀ r : Pair, inject 5#32 466689008#32 0#32 r = (r.1 + 466689008#32, r.2 + 5#32) :=
    fun r => by unfold inject; rw [BitVec.add_zero]
  have ek : (0#32 ^^^ 42#32 ^^^ 466688986#32 : BitVec 32) = 466689008#32 := by decide
  unfold cipher
  simp only [ek]
  rw [e1, e2, e3, e4, e5]
  rw [show ((0#32 : BitVec 32) + 0#32) = 0#32 from rfl]
  rfl

end Cert.Sample.Word
-- ==== Proof.Sample.KWords.lean ====
/- The words a trip of the kernel draws: at lane `j` the cipher's word of the lane's flat index. -/
module

public import proofs.«01_k».proof.Proof.Sample.Loop
public import proofs.«01_k».proof.Proof.Sample.Words

@[expose] public section

noncomputable section

namespace Cert.Sample.Loop

open Cert.KernelIdeal Cert.KernelIdeal.Gen Cert.Sample.Word
open Idealize.ShloMosaic

variable {F : FTy → Type} [FloatOps F] [Named F]

/-- The counter of lane `j` with the key added, at trip `k` of grid point `i`. -/
def counter (i : grid0.Coords) (k : ℕ) (j : S64x1280.Idx) : BitVec 32 :=
  k0_pay3 i j + (Scf.iv 0#32 1#32 k * 1280#32 + 42#32)

/-- A round in the vector unit's operations. -/
def vturn (n n' : BitVec 32) (p : Pair) : Pair :=
  (IntOp.addi p.1 p.2, IntOp.xori (IntOp.ori (IntOp.shli .vector p.2 n) (IntOp.shrui .vector p.2 n')) (IntOp.addi p.1 p.2))

theorem vturn_eq (n n' : BitVec 32) (h : n.toNat < 32) (h' : n'.toNat < 32) : vturn n n' = turn n n' :=
  funext fun p => turn_vector n n' p h h'

/-- The opening rounds on a lane's counter, in the vector unit's operations. -/
theorem k1_eq (i : grid0.Coords) (k : ℕ) (j : S64x1280.Idx) :
    vturn 26#32 6#32 (vturn 15#32 17#32 (vturn 13#32 19#32 (0#32, k0_pay3 i j + (Scf.iv 0#32 1#32 k * 1280#32 + 42#32))))
      = k1 (counter i k j) := by
  unfold k1 counter
  rw [vturn_eq 13#32 19#32 (by decide) (by decide), vturn_eq 15#32 17#32 (by decide) (by decide), vturn_eq 26#32 6#32 (by decide) (by decide)]

/-- A round with its left shift and its sum already taken: from the second word, the sum and the shifted word. -/
def late (n' a b d : BitVec 32) : Pair := (b, IntOp.xori (IntOp.ori d (IntOp.shrui .vector a n')) b)

/-- From the first injection to the second, in the vector unit's operations. -/
def v2 (r : Pair) : Pair :=
  let q := vturn 24#32 8#32 (vturn 16#32 16#32 (vturn 29#32 3#32 (vturn 17#32 15#32 (r.1 + 42#32, r.2 + (466689008#32 + 1#32)))))
  (q.1 + 466689008#32, q.2 + 2#32)

theorem v2_eq (p : Pair) : v2 (vturn 6#32 26#32 p) = k2 p := by
  simp (disch := decide) only [v2, k2, vturn_eq]

/-- Past the third injection to the round by 29, in the vector unit's operations. -/
def v3 (p : Pair) : Pair :=
  vturn 29#32 3#32 (vturn 17#32 15#32 (let r := vturn 6#32 26#32 (vturn 26#32 6#32 p); (r.1, r.2 + (42#32 + 3#32))))

theorem v3_eq (p : Pair) : v3 (vturn 15#32 17#32 p) = k3 p := by
  simp (disch := decide) only [v3, k3, vturn_eq]

/-- The fourth injection, the last four rounds and the last injection, in the vector unit's operations. -/
def v5 (r : Pair) : Pair :=
  let r := vturn 6#32 26#32 (vturn 26#32 6#32 (vturn 15#32 17#32 (vturn 13#32 19#32 (r.1 + 42#32, r.2 + (466689008#32 + 4#32)))))
  (r.1 + 466689008#32, r.2 + 5#32)

theorem v5_eq (p : Pair) : v5 (vturn 24#32 8#32 p) = k5 (k4 p) := by
  simp (disch := decide) only [v5, k5, k4, fours, vturn_eq]

/-! ## The masked loop's parts -/

/-- One part of the loop body at a lane, in rounds. -/
theorem a1_fst (v : IVec S64x1280 32) (k : Fin k0_t1_loop.trips) (j : S64x1280.Idx) :
    k0_pay19 v 0#32 1#32 k j = (vturn 26#32 6#32 (vturn 15#32 17#32 (vturn 13#32 19#32 (0#32, v j + (Scf.iv 0#32 1#32 k.val * 1280#32 + 42#32))))).1 := rfl

/-- One part of the loop body at a lane, in rounds. -/
theorem a1_snd (v : IVec S64x1280 32) (k : Fin k0_t1_loop.trips) (j : S64x1280.Idx) :
    k0_pay20 v 0#32 1#32 k j = (vturn 26#32 6#32 (vturn 15#32 17#32 (vturn 13#32 19#32 (0#32, v j + (Scf.iv 0#32 1#32 k.val * 1280#32 + 42#32))))).2 := rfl

/-- One part of the loop body at a lane, in rounds. -/
theorem a2_a (a b : IVec S64x1280 32) (j : S64x1280.Idx) :
    k0_pay30 (Scalar.addi 466689008#32 1#32) a b j = (v2 (vturn 6#32 26#32 (a j, b j))).2 := rfl

/-- One part of the loop body at a lane, in rounds. -/
theorem a2_b (a b : IVec S64x1280 32) (j : S64x1280.Idx) :
    k0_pay31 (Scalar.addi 466689008#32 1#32) a b j = (v2 (vturn 6#32 26#32 (a j, b j))).1 + (v2 (vturn 6#32 26#32 (a j, b j))).2 := rfl

/-- One part of the loop body at a lane, in rounds. -/
theorem a2_d (a b : IVec S64x1280 32) (j : S64x1280.Idx) :
    k0_pay32 (Scalar.addi 466689008#32 1#32) a b j = IntOp.shli .vector (v2 (vturn 6#32 26#32 (a j, b j))).2 13#32 := rfl

/-- One part of the loop body at a lane, in rounds. -/
theorem a3_fst (a b d : IVec S64x1280 32) (j : S64x1280.Idx) :
    k0_pay44 (Scalar.addi 42#32 3#32) a b d j
      = (v3 (vturn 15#32 17#32 (late 19#32 (a j) (b j) (d j)))).1 + (v3 (vturn 15#32 17#32 (late 19#32 (a j) (b j) (d j)))).2 := rfl

/-- One part of the loop body at a lane, in rounds. -/
theorem a3_snd (a b d : IVec S64x1280 32) (j : S64x1280.Idx) :
    k0_pay45 (Scalar.addi 42#32 3#32) a b d j
      = IntOp.ori (IntOp.shli .vector (v3 (vturn 15#32 17#32 (late 19#32 (a j) (b j) (d j)))).2 16#32)
          (IntOp.shrui .vector (v3 (vturn 15#32 17#32 (late 19#32 (a j) (b j) (d j)))).2 16#32) := rfl

/-- One part of the loop body at a lane, in rounds. -/
theorem a4 (x y : IVec S64x1280 32) (j : S64x1280.Idx) :
    k0_pay46 (Scalar.addi 466689008#32 4#32) x y j
      = (v5 (vturn 24#32 8#32 (x j, IntOp.xori (y j) (x j)))).1 ^^^ (v5 (vturn 24#32 8#32 (x j, IntOp.xori (y j) (x j)))).2 := rfl

/-- A round finished late is the round. -/
theorem late_eq (n n' : BitVec 32) (p : Pair) : late n' p.2 (p.1 + p.2) (IntOp.shli .vector p.2 n) = vturn n n' p := rfl

/-- A trip of the masked loop draws, at each lane, the folded cipher's word of the lane's counter. -/
theorem wordsA_apply (i : grid0.Coords) (k : Fin k0_t1_loop.trips) (j : S64x1280.Idx) :
    wordsA i k j = (folded (counter i k.val j)).1 ^^^ (folded (counter i k.val j)).2 := by
  unfold wordsA
  rw [a4, a3_fst, a3_snd, a2_a, a2_b, a2_d, a1_fst, a1_snd, Prod.mk.eta, k1_eq, v2_eq, late_eq 13#32 19#32, v3_eq]
  rw [show ∀ q : Pair, (q.1 + q.2, IntOp.xori (IntOp.ori (IntOp.shli .vector q.2 16#32) (IntOp.shrui .vector q.2 16#32)) (q.1 + q.2)) = vturn 16#32 16#32 q
    from fun _ => rfl, v5_eq, vturn_eq 16#32 16#32 (by decide) (by decide), vturn_eq 13#32 19#32 (by decide) (by decide)]
  unfold folded
  rfl

/-! ## The unmasked loop's parts -/

/-- One part of the loop body at a lane, in rounds. -/
theorem b1_a (v : IVec S64x1280 32) (k : Fin k0_t2_loop.trips) (j : S64x1280.Idx) :
    k0_pay54 v 0#32 1#32 k j = (vturn 26#32 6#32 (vturn 15#32 17#32 (vturn 13#32 19#32 (0#32, v j + (Scf.iv 0#32 1#32 k.val * 1280#32 + 42#32))))).2 := rfl

/-- One part of the loop body at a lane, in rounds. -/
theorem b1_b (v : IVec S64x1280 32) (k : Fin k0_t2_loop.trips) (j : S64x1280.Idx) :
    k0_pay55 v 0#32 1#32 k j
      = (vturn 26#32 6#32 (vturn 15#32 17#32 (vturn 13#32 19#32 (0#32, v j + (Scf.iv 0#32 1#32 k.val * 1280#32 + 42#32))))).1
        + (vturn 26#32 6#32 (vturn 15#32 17#32 (vturn 13#32 19#32 (0#32, v j + (Scf.iv 0#32 1#32 k.val * 1280#32 + 42#32))))).2 := rfl

/-- One part of the loop body at a lane, in rounds. -/
theorem b1_d (v : IVec S64x1280 32) (k : Fin k0_t2_loop.trips) (j : S64x1280.Idx) :
    k0_pay56 v 0#32 1#32 k j
      = IntOp.shli .vector (vturn 26#32 6#32 (vturn 15#32 17#32 (vturn 13#32 19#32 (0#32, v j + (Scf.iv 0#32 1#32 k.val * 1280#32 + 42#32))))).2 6#32 := rfl

/-- One part of the loop body at a lane, in rounds. -/
theorem b2_a (a b d : IVec S64x1280 32) (j : S64x1280.Idx) :
    k0_pay68 (Scalar.addi 466689008#32 1#32) a b d k0_pay57 j = (vturn 13#32 19#32 (v2 (late 26#32 (a j) (b j) (d j)))).2 := rfl

/-- One part of the loop body at a lane, in rounds. -/
theorem b2_b (a b d : IVec S64x1280 32) (j : S64x1280.Idx) :
    k0_pay69 (Scalar.addi 466689008#32 1#32) a b d k0_pay57 j
      = (vturn 13#32 19#32 (v2 (late 26#32 (a j) (b j) (d j)))).1 + (vturn 13#32 19#32 (v2 (late 26#32 (a j) (b j) (d j)))).2 := rfl

/-- One part of the loop body at a lane, in rounds. -/
theorem b3_a (a b : IVec S64x1280 32) (j : S64x1280.Idx) :
    k0_pay80 (Scalar.addi 42#32 3#32) a b j = (vturn 16#32 16#32 (v3 (late 17#32 (a j) (b j) (IntOp.shli .vector (a j) 15#32)))).2 := rfl

/-- One part of the loop body at a lane, in rounds. -/
theorem b3_b (a b : IVec S64x1280 32) (j : S64x1280.Idx) :
    k0_pay81 (Scalar.addi 42#32 3#32) a b j
      = (vturn 16#32 16#32 (v3 (late 17#32 (a j) (b j) (IntOp.shli .vector (a j) 15#32)))).1
        + (vturn 16#32 16#32 (v3 (late 17#32 (a j) (b j) (IntOp.shli .vector (a j) 15#32)))).2 := rfl

/-- One part of the loop body at a lane, in rounds. -/
theorem b3_d (a b : IVec S64x1280 32) (j : S64x1280.Idx) :
    k0_pay82 (Scalar.addi 42#32 3#32) a b j
      = IntOp.shli .vector (vturn 16#32 16#32 (v3 (late 17#32 (a j) (b j) (IntOp.shli .vector (a j) 15#32)))).2 24#32 := rfl

/-- The float a word stands for: its upper bits under the exponent of one. -/
def unitBits (x : BitVec 32) : F .f32 := FloatOps.ofBits .f32 (IntOp.ori (IntOp.shrui .vector x 9#32) 1065353216#32)

/-- One part of the loop body at a lane, in rounds. -/
theorem b4 (u v w : IVec S64x1280 32) (j : S64x1280.Idx) :
    k0_pay83 (F := F) (Scalar.addi 466689008#32 4#32) u v w 8#32 j
      = unitBits ((v5 (late 8#32 (u j) (v j) (w j))).1 ^^^ (v5 (late 8#32 (u j) (v j) (w j))).2) := rfl

/-- A trip of the unmasked loop draws, at each lane, the float of the folded cipher's word of the lane's counter. -/
theorem drawB_apply (i : grid0.Coords) (k : Fin k0_t2_loop.trips) (j : S64x1280.Idx) :
    drawB (F := F) i k j = unitBits ((folded (counter i k.val j)).1 ^^^ (folded (counter i k.val j)).2) := by
  unfold drawB
  rw [b4, b3_a, b3_b, b3_d, b2_a, b2_b, b1_a, b1_b, b1_d, k1_eq, late_eq 6#32 26#32, v2_eq, late_eq 15#32 17#32, v3_eq, late_eq 24#32 8#32, v5_eq,
    vturn_eq 16#32 16#32 (by decide) (by decide), vturn_eq 13#32 19#32 (by decide) (by decide)]
  unfold folded
  rfl

end Cert.Sample.Loop
-- ==== Proof.Sample.Noise.lean ====
/- The Gumbel noise of a drawn word over the extended reals, in the three ways it is written: the logarithm in base two times
   minus its natural logarithm, the natural one negated, and the reference's with its clamps. -/
module

public import Idealize.ShloMosaic.PureOps.Ideal.Laws
public import proofs.«01_k».proof.Proof.Sample.Words

@[expose] public section

noncomputable section

namespace Cert.Sample.Noise

open Idealize.ShloMosaic

/-- The float a drawn word stands for: its upper 23 bits under the exponent of one. -/
def unit (x : BitVec 32) : EReal := Ideal.ofBits .f32 (x >>> 9#32 ||| 1065353216#32)

/-- The literal just above zero. -/
def tiny : EReal := Ideal.ofBits .f32 0x1E3CE508#32

/-- The noise of a drawn word. -/
def noise (x : BitVec 32) : EReal := -Ideal.log (-Ideal.log (unit x - 1 + tiny))

theorem ofBits_one : Ideal.ofBits .f32 0x3F800000#32 = 1 := by
  simp [Ideal.ofBits, Ideal.ieee, -EReal.coe_mul]; norm_num

theorem ofBits_ninf : Ideal.ofBits .f32 0xFF800000#32 = ⊥ := by
  simp [Ideal.ofBits, Ideal.ieee]

/-- The pattern under the exponent of one as a sum. -/
theorem toNat_unit (x : BitVec 32) : (x >>> 9#32 ||| 1065353216#32 : BitVec 32).toNat = 1065353216 + x.toNat / 512 := by
  have hx : x.toNat / 512 < 2 ^ 23 := by have := x.isLt; omega
  rw [BitVec.toNat_or]
  have h1 : (x >>> 9#32).toNat = x.toNat / 512 := by
    rw [show x >>> 9#32 = x >>> (9 : ℕ) from rfl, BitVec.toNat_ushiftRight, Nat.shiftRight_eq_div_pow]
  rw [h1, Nat.or_comm]
  have := Nat.two_pow_add_eq_or_of_lt hx 127
  rw [show (1065353216#32 : BitVec 32).toNat = 2 ^ 23 * 127 from rfl, ← this]

/-- That float is a real in `[1, 2)`. -/
theorem unit_eq (x : BitVec 32) : unit x = (((2 ^ 23 + x.toNat / 512 : ℕ) * (2 : ℝ) ^ (-23 : ℤ) : ℝ) : EReal) := by
  have hx : x.toNat / 512 < 2 ^ 23 := by have := x.isLt; omega
  unfold unit Ideal.ofBits Ideal.ieee
  have hn := toNat_unit x
  generalize (x >>> 9#32 ||| 1065353216#32 : BitVec 32) = b at hn ⊢
  have hs : (b.extractLsb' (8 + 23) 1 == 1#1) = false := by
    rw [beq_eq_false_iff_ne]; intro h
    have := congrArg BitVec.toNat h
    rw [BitVec.extractLsb'_toNat, hn, Nat.shiftRight_eq_div_pow] at this
    norm_num at this; omega
  have he : (b.extractLsb' 23 8).toNat = 127 := by
    rw [BitVec.extractLsb'_toNat, hn, Nat.shiftRight_eq_div_pow]; omega
  have hf : (b.extractLsb' 0 23).toNat = x.toNat / 512 := by
    rw [BitVec.extractLsb'_toNat, hn, Nat.shiftRight_eq_div_pow]; omega
  simp only [hs, he, hf]
  norm_num

theorem one_le_unit (x : BitVec 32) : 1 ≤ unit x := by
  rw [unit_eq, show (1 : EReal) = ((1 : ℝ) : EReal) from rfl, EReal.coe_le_coe_iff, zpow_neg, ← div_eq_mul_inv, le_div_iff₀ (by positivity)]
  push_cast
  have : (0 : ℝ) ≤ ((x.toNat / 512 : ℕ) : ℝ) := Nat.cast_nonneg _
  norm_num

theorem unit_sub_nonneg (x : BitVec 32) : 0 ≤ unit x - 1 :=
  (EReal.sub_nonneg (.inr (EReal.coe_ne_top 1)) (.inr (EReal.coe_ne_bot 1))).2 (one_le_unit x)

/-- The base-two logarithm times minus the natural logarithm of two is the natural logarithm negated. -/
theorem neg_of_base_two (y : EReal) : y * (((Real.log 2)⁻¹ : ℝ) : EReal) * ((-(Real.log 2) : ℝ) : EReal) = -y := by
  rw [mul_assoc, ← EReal.coe_mul]
  have h : (Real.log 2)⁻¹ * -(Real.log 2) = -1 := by
    have : Real.log 2 ≠ 0 := (Real.log_pos (by norm_num)).ne'
    field_simp
  rw [h, EReal.coe_neg, EReal.coe_one, mul_neg, mul_one]

/-- The noise by way of base two. -/
theorem noise_base_two (x : BitVec 32) :
    Ideal.log (Ideal.log (unit x - Ideal.ofBits .f32 0x3F800000#32 + Ideal.ofBits .f32 0x1E3CE508#32) * (((Real.log 2)⁻¹ : ℝ) : EReal)
        * ((-(Real.log 2) : ℝ) : EReal)) * (((Real.log 2)⁻¹ : ℝ) : EReal) * ((-(Real.log 2) : ℝ) : EReal) = noise x := by
  rw [neg_of_base_two, neg_of_base_two, ofBits_one]; rfl

/-- The noise by way of the clamps: neither acts. -/
theorem noise_clamped (x : BitVec 32) :
    -Ideal.log (-Ideal.log (max (Ideal.ofBits .f32 0x1E3CE508#32)
        (max (Ideal.ofBits .f32 0x00000000#32) ((unit x - Ideal.ofBits .f32 0x3F800000#32)
            * (Ideal.ofBits .f32 0x3F800000#32 - Ideal.ofBits .f32 0x00000000#32) + Ideal.ofBits .f32 0x00000000#32)
          * Ideal.ofBits .f32 0x3F800000#32 + Ideal.ofBits .f32 0x1E3CE508#32))) = noise x := by
  rw [ofBits_one, Ideal.ofBits_zero_f32, sub_zero, mul_one, mul_one, add_zero, max_eq_right (unit_sub_nonneg x),
    max_eq_right (le_add_of_nonneg_left (unit_sub_nonneg x))]
  rfl

end Cert.Sample.Noise
-- ==== Proof.Sample.Score.lean ====
/- The kernel's scores as values: a lane's counter is its logit's flat index under the key, and its score is its masked
   logit plus the noise of that index. -/
module

public import proofs.«01_k».proof.Proof.Sample.KWords
public import proofs.«01_k».proof.Proof.Sample.Noise
public import Idealize.ShloMosaic.Lib.Pipeline.ValueKit.Tiles

@[expose] public section

noncomputable section

namespace Cert.Sample.Score

open Cert.KernelIdeal Cert.KernelIdeal.Gen Cert.Sample.Word Cert.Sample.Loop
open Idealize.ShloMosaic

/-- The noise of the logit at row `r`, column `n`. -/
def noiseAt (r n : ℕ) : EReal := Noise.noise (draw (BitVec.ofNat 32 (r * 100000 + n)))

/-- The scores of tile `g` of a masked array `M`. -/
def scores (M : ℕ → ℕ → EReal) (g : ℕ) : FVec Ideal S64x1280 .f32 := fun j =>
  M (j 0).val (1280 * g + (j 1).val) + noiseAt (j 0).val (1280 * g + (j 1).val)

/-- A lane's counter: the flat index of its logit, plus the key's second word. -/
theorem counter_eq (i : grid0.Coords) (k : ℕ) (j : S64x1280.Idx) :
    counter i k j = BitVec.ofNat 32 ((j 0).val * 100000 + (1280 * (10 * (i 0).val + k) + (j 1).val)) + 42#32 := by
  have h3 : k0_pay3 i j = BitVec.ofNat 32 (j 0).val * 100000#32 + BitVec.ofNat 32 (j 1).val + BitVec.ofNat 32 (i 0).val * 12800#32 := by
    unfold k0_pay3
    generalize 100000#32 = b
    generalize 12800#32 = d
    have e0 : iota .tc S64x1280 32 [0] iota_S64x1280_d0_w32 j = BitVec.ofNat 32 (j 0).val := by simp [iota]
    have e1 : iota .tc S64x1280 32 [1] iota_S64x1280_d1_w32 j = BitVec.ofNat 32 (j 1).val := by simp [iota]
    rw [← e0, ← e1]
    rfl
  unfold counter
  rw [h3]
  unfold Scf.iv
  apply BitVec.eq_of_toNat_eq
  simp only [BitVec.toNat_add, BitVec.toNat_mul, BitVec.toNat_ofNat]
  omega

/-- The kernel's word at a lane is the cipher's word of its logit's flat index. -/
theorem word_eq (i : grid0.Coords) (k : ℕ) (j : S64x1280.Idx) :
    (folded (counter i k j)).1 ^^^ (folded (counter i k j)).2
      = draw (BitVec.ofNat 32 ((j 0).val * 100000 + (1280 * (10 * (i 0).val + k) + (j 1).val))) := by
  rw [counter_eq, folded_eq]; rfl

variable {F : FTy → Type} [FloatOps F] [Named F]

/-- The noise of a float drawn from [1, 2), operation by operation. -/
def gumbel (f : F .f32) : F .f32 :=
  FloatOps.mulf (FloatOps.mulf (FloatOps.log (FloatOps.mulf (FloatOps.mulf (FloatOps.log (FloatOps.addf
    (FloatOps.subf f (FloatOps.ofBits .f32 0x3F800000#32)) (FloatOps.ofBits .f32 0x1E3CE508#32)))
    (Named.named κ "inv_ln2" 0x3FB8AA3B#32)) (Named.named κ "nln2" 0xBF317218#32))) (Named.named κ "inv_ln2" 0x3FB8AA3B#32))
    (Named.named κ "nln2" 0xBF317218#32)

/-- A masked score at a lane, operation by operation. -/
theorem pay4_at (v : FVec F S64x1280 .f32) (w : IVec S64x1280 32) (j : S64x1280.Idx) :
    k0_pay4 v w k0_pay47 j = FloatOps.addf (v j) (gumbel (unitBits (w j))) := rfl

/-- A plain score at a lane, operation by operation. -/
theorem pay8_at (v u : FVec F S64x1280 .f32) (j : S64x1280.Idx) :
    k0_pay8 v u (Scalar.ofBits .f32 0x3F800000#32) j = FloatOps.addf (v j) (gumbel (u j)) := rfl

/-- The kernel's noise, whose logarithms go by way of base two, is the noise. -/
theorem gumbel_eq (x : BitVec 32) : (gumbel (unitBits x) : Ideal .f32) = Noise.noise x := by
  have hu : (unitBits x : Ideal .f32) = Noise.unit x := by
    unfold unitBits Noise.unit
    rw [show IntOp.shrui .vector x 9#32 = x >>> 9#32 from shr_of_lt _ _ _ (by decide)]
    rfl
  have h1 : (Named.named κ "inv_ln2" 0x3FB8AA3B#32 : Ideal .f32) = (((Real.log 2)⁻¹ : ℝ) : EReal) :=
    IdealRules.named_const.ideal_named_scalar _ _ _ _ rfl
  have h2 : (Named.named κ "nln2" 0xBF317218#32 : Ideal .f32) = ((-(Real.log 2) : ℝ) : EReal) :=
    IdealRules.named_const.ideal_named_scalar _ _ _ _ rfl
  unfold gumbel
  rw [h1, h2, hu]
  simp only [Ideal.addf_def, Ideal.mulf_def, Ideal.subf_def, Ideal.ofBits_def, Ideal.log_def]
  exact Noise.noise_base_two x

variable (a1 : Memref sig .tc .vmem S64x12800 .f32) (a2 : Memref sig .tc .vmem S1x12800 .f32) (i : grid0.Coords) (M : ℕ → ℕ → EReal)

/-- A trip of the masked loop whose rows are `M`'s scores as `scores M`. -/
theorem scoreA_eq (hc : k0_cond2 i = 1#1) (X1 : BufTy.Contents (Elt Ideal) a1.view.ty) (X2 : BufTy.Contents (Elt Ideal) a2.view.ty)
    (k : Fin k0_t1_loop.trips)
    (h : ∀ j : S64x1280.Idx, rowsA i a1 a2 hc X1 X2 k j = M (j 0).val (1280 * (10 * (i 0).val + k.val) + (j 1).val)) :
    scoreA i a1 a2 hc X1 X2 k = scores M (10 * (i 0).val + k.val) := by
  funext j
  unfold scoreA scores noiseAt
  rw [pay4_at, wordsA_apply, word_eq, gumbel_eq, Ideal.addf_def, h]

/-- A trip of the plain loop whose rows are `M`'s scores as `scores M`. -/
theorem scoreB_eq (hc : k0_cond3 i = 1#1) (X1 : BufTy.Contents (Elt Ideal) a1.view.ty) (k : Fin k0_t2_loop.trips)
    (h : ∀ j : S64x1280.Idx, rowsB i a1 hc X1 k j = M (j 0).val (1280 * (10 * (i 0).val + k.val) + (j 1).val)) :
    scoreB i a1 hc X1 k = scores M (10 * (i 0).val + k.val) := by
  funext j
  unfold scoreB scores noiseAt
  rw [pay8_at, drawB_apply, word_eq, gumbel_eq, Ideal.addf_def, h]

/-- A trip's mark is its tile's number. -/
theorem mark_eq (k : ℕ) : mark i k = BitVec.ofNat 32 (10 * (i 0).val + k) := by
  unfold mark Scf.iv
  show BitVec.ofNat 32 (i 0).val * 10#32 + (0#32 + BitVec.ofNat 32 k * 1#32) = _
  apply BitVec.eq_of_toNat_eq
  simp only [BitVec.toNat_add, BitVec.toNat_mul, BitVec.toNat_ofNat]
  omega

/-- Where trip `k` of the masked loop reads the mask: at column `1280·k`. -/
theorem offA2 : ∀ k : Fin k0_t1_loop.trips, k0_off2 k = ![0, 1280 * k.val] := by decide +kernel

/-- The rows of the masked loop at a lane: the block's entry plus the mask's. -/
theorem rowsA_apply (hc : k0_cond2 i = 1#1) (X1 : BufTy.Contents (Elt F) a1.view.ty) (X2 : BufTy.Contents (Elt F) a2.view.ty)
    (k : Fin k0_t1_loop.trips) (j : S64x1280.Idx) (y : S64x12800.Idx) (z : S1x12800.Idx) (h0 : (y 0).val = (j 0).val)
    (h1 : (y 1).val = 1280 * k.val + (j 1).val) (hz0 : (z 0).val = 0) (hz1 : (z 1).val = 1280 * k.val + (j 1).val) :
    rowsA i a1 a2 hc X1 X2 k j = FloatOps.addf (a1.view.read (Elt F) X1 y) (a2.view.read (Elt F) X2 z) := by
  have e1 : (a1.view.readAt (Elt F) (Rect.unit (s := S64x12800) (k0_off1 k) S64x1280.size (k0_off1_inb i k hc)).toLoadRect X1) j = a1.view.read (Elt F) X1 y := by
    rw [View.readAt_eq_ld]
    refine View.ld_unit_apply_of _ _ _ _ _ _ fun a => ?_
    refine Eq.trans ?_ (congrArg (· + _) (congrFun (offA k) a).symm)
    match a with
    | ⟨0, _⟩ => show (y 0).val = 0 + (j 0).val; omega
    | ⟨1, _⟩ => exact h1
  have e2 : broadcastTo S64x1280 (shapeCast S1x1280 (a2.view.readAt (Elt F) (Rect.unit (s := S1x12800) (k0_off2 k) S1x1280.size (k0_off2_inb i k hc)).toLoadRect X2)
      shapeCasts_S1x1280_S1x1280) broadcasts_S1x1280_S64x1280 j = a2.view.read (Elt F) X2 z := by
    refine (congrArg (fun v => broadcastTo S64x1280 v broadcasts_S1x1280_S64x1280 j) (shapeCast_self _ shapeCasts_S1x1280_S1x1280)).trans ?_
    let w : S1x1280.Idx := fun a => match a with
      | ⟨0, _⟩ => (⟨0, by decide⟩ : Fin 1)
      | ⟨1, _⟩ => (⟨(j 1).val, (j 1).isLt⟩ : Fin 1280)
    refine (broadcastTo_apply _ _ j w fun a => ?_).trans ?_
    · match a with
      | ⟨0, _⟩ => rfl
      | ⟨1, _⟩ => rfl
    · rw [View.readAt_eq_ld]
      refine View.ld_unit_apply_of _ _ _ _ _ _ fun a => ?_
      refine Eq.trans ?_ (congrArg (· + _) (congrFun (offA2 k) a).symm)
      match a with
      | ⟨0, _⟩ => exact hz0
      | ⟨1, _⟩ => exact hz1
  unfold rowsA k0_pay13
  exact congrArg₂ FloatOps.addf e1 e2

/-- The rows of the plain loop at a lane: the block's entry. -/
theorem rowsB_apply (hc : k0_cond3 i = 1#1) (X1 : BufTy.Contents (Elt F) a1.view.ty)
    (k : Fin k0_t2_loop.trips) (j : S64x1280.Idx) (y : S64x12800.Idx) (h0 : (y 0).val = (j 0).val)
    (h1 : (y 1).val = 1280 * k.val + (j 1).val) :
    rowsB i a1 hc X1 k j = a1.view.read (Elt F) X1 y := by
  unfold rowsB
  rw [View.readAt_eq_ld]
  refine View.ld_unit_apply_of _ _ _ _ _ _ fun a => ?_
  refine Eq.trans ?_ (congrArg (· + _) (congrFun (offB k) a).symm)
  match a with
  | ⟨0, _⟩ => show (y 0).val = 0 + (j 0).val; omega
  | ⟨1, _⟩ => exact h1

end Cert.Sample.Score

end
-- ==== Proof.Sample.Blocks.lean ====
/- The kernel's blocks as values: what a grid point's windows hold of the logits and of the padded mask, the masked array
   they make, and the scratch buffers' contents between the points. -/
module

public import proofs.«01_k».proof.Proof.Sample.Score
public import proofs.«01_k».proof.Proof.Gen.KernelIdeal.Frame
public import Idealize.ShloMosaic.Lib.KernelVsHost
public import Idealize.ShloMosaic.Lib.StableHlo.Run

@[expose] public section

set_option maxRecDepth 16384

noncomputable section

namespace Cert.Sample.Blocks

open Cert.KernelIdeal Cert.KernelIdeal.Gen Cert.Sample.Loop Cert.Sample.Score
open Idealize.ShloMosaic Idealize.ShloMosaic.TcCoe

/-- The index of the logit at row `r`, column `n`. -/
def ix (r n : ℕ) (hr : r < 64) (hn : n < 100000) : S64x100000.Idx := fun a => match a with
  | ⟨0, _⟩ => (⟨r, hr⟩ : Fin 64)
  | ⟨1, _⟩ => (⟨n, hn⟩ : Fin 100000)

/-- The index of the mask's column `n`. -/
def ix1 (n : ℕ) (hn : n < 100000) : S100000.Idx := fun a => match a with
  | ⟨0, _⟩ => (⟨n, hn⟩ : Fin 100000)

/-- The mask, continued by −∞ past its last column. -/
def padded (k : S100000.Idx → EReal) (n : ℕ) : EReal := if h : n < 100000 then k (ix1 n h) else ⊥

/-- The masked logits as the kernel makes them: the mask added in the first and the last chunk, the logit alone between, −∞
    past the last column. -/
def masked (x : S64x100000.Idx → EReal) (k : S100000.Idx → EReal) (r n : ℕ) : EReal :=
  if h : r < 64 ∧ n < 100000 then
    if n < 12800 ∨ 89600 ≤ n then x (ix r n h.1 h.2) + k (ix1 n h.2) else x (ix r n h.1 h.2)
  else ⊥

/-- The running maxima and their tiles after the first `n` tiles of a masked array. -/
def state (M : ℕ → ℕ → EReal) (n : ℕ) : Best Ideal := tiles (scores M) (fun g => BitVec.ofNat 32 g) (k0_pay1, k0_pay2) n

/-- A grid point's ten trips carry the state on by ten tiles. -/
theorem state_step (M : ℕ → ℕ → EReal) (i : grid0.Coords) :
    tiles (fun k => scores M (10 * (i 0).val + k)) (mark i) (state M (10 * (i 0).val)) 10 = state M (10 * ((i 0).val + 1)) := by
  rw [show mark i = fun k => BitVec.ofNat 32 (10 * (i 0).val + k) from funext (mark_eq i)]
  exact tiles_add (scores M) (fun g => BitVec.ofNat 32 g) (k0_pay1, k0_pay2) (10 * (i 0).val) 10

/-- The sampled ids: the last point's reduction of the state after all eighty tiles. -/
def ids (M : ℕ → ℕ → EReal) : IVec S64x1 32 := k0_pay12 (F := Ideal) (state M 80).1 (state M 80).2

variable (m : (ℓ : Loc nD τ sig) → Buf (Elt Ideal) ℓ) (c : Dev nD)

/-- The logits at launch. -/
abbrev logits : S64x100000.Idx → EReal := m ((c.tc : Thread nD τ).loc main_arg0)
/-- The mask at launch. -/
abbrev mask : S100000.Idx → EReal := m ((c.tc : Thread nD τ).loc main_arg1)

/-- A point's coordinate is its number. -/
theorem coord : ∀ t : Fin cfg0.N, (grid0.coords t 0).val = t.val := by decide +kernel

/-- The padded mask the region finds. -/
theorem V_main_v1 (z : S1x102400.Idx) : (V m c main_v1 : S1x102400.Idx → EReal) z = padded (mask m c) (z 1).val := by
  have hV : (V m c main_v1 : S1x102400.Idx → EReal)
      = pad S1x102400 ![0, 0] ![0, 2400] ![0, 0] (shapeCast S1x100000 (mask m c) shapeCasts_S100000_S1x100000)
          (constant (F := Ideal) S_ .f32 0xFF800000#32) pads_S1x100000_S1x102400_000_024000 h_S_ := by
    show StableHlo.after (hostOps0 ++ hostOps0_1) (fun b => m (c, b)) (Proc.devRef .tc main_v1) = _
    simp only [hostOps0, hostOps0_1, List.cons_append, List.nil_append]
    after_results
    try rfl
  have hz0 : (z 0).val < 1 := (z 0).isLt
  rw [hV]
  unfold padded
  by_cases h : (z 1).val < 100000
  · rw [dif_pos h]
    let w : S1x100000.Idx := fun a => match a with
      | ⟨0, _⟩ => (⟨0, by decide⟩ : Fin 1)
      | ⟨1, _⟩ => (⟨(z 1).val, h⟩ : Fin 100000)
    refine (pad_apply_of_inside _ _ _ _ _ _ _ z w fun a => ?_).trans ?_
    · match a with
      | ⟨0, _⟩ => show (z 0).val = 0 + 0 * 1; omega
      | ⟨1, _⟩ => show (z 1).val = 0 + (z 1).val * 1; omega
    · refine shapeCast_apply _ _ w (ix1 (z 1).val h) ?_
      rw [Shape.rowMajor_val_two, Shape.rowMajor_val_one]
      show (z 1).val = 0 * 100000 + (z 1).val
      omega
  · rw [dif_neg h]
    refine (pad_apply_of_not_inside _ _ _ _ _ _ _ z 1 fun hh => h ?_).trans ?_
    · have := hh.2.2
      change ((z 1).val - 0) / 1 < 100000 at this
      omega
    · exact Noise.ofBits_ninf

/-- A point's block of the padded mask. -/
theorem mask_block (t : Fin cfg0.N) (z : S1x12800.Idx) :
    (iblk m c 1 t : S1x12800.Idx → EReal) z = padded (mask m c) (12800 * t.val + (z 1).val) := by
  have hi : win0_1.index t 1 = t.val := by rcases fin_N0 t with rfl | rfl | rfl | rfl | rfl | rfl | rfl | rfl <;> decide
  unfold iblk
  rw [View.read_apply]
  refine (V_main_v1 m c _).trans (congrArg (padded (mask m c)) ?_)
  show win0_1.index t 1 * 12800 + 1 * (z 1).val = _
  rw [hi]; omega

/-- The part of a point's block that lies in the logits. -/
theorem moved_iff (t : Fin cfg0.N) (y : S64x12800.Idx) : win0_0.moved (grid0.coords t) y = true ↔ 12800 * t.val + (y 1).val < 100000 := by
  rw [Pipeline.Window.moved_iff]
  have h0 : (y 0).val < 64 := (y 0).isLt
  have h1 : (y 1).val < 12800 := (y 1).isLt
  have e : win0_0.xsize (grid0.coords t) 0 = 64 ∧ win0_0.xsize (grid0.coords t) 1 = min 12800 (100000 - 12800 * t.val) := by
    rcases fin_N0 t with rfl | rfl | rfl | rfl | rfl | rfl | rfl | rfl <;> decide +kernel
  have ht : t.val < 8 := t.isLt
  refine ⟨fun h => ?_, fun h a => ?_⟩
  · have := h 1
    rw [e.2] at this
    omega
  · match a with
    | ⟨0, _⟩ => exact lt_of_lt_of_eq h0 e.1.symm
    | ⟨1, _⟩ =>
      refine lt_of_lt_of_eq ?_ e.2.symm
      show (y 1).val < _
      omega

/-- A point's block of the logits, on the columns the array has. -/
theorem logits_block (t : Fin cfg0.N) (d : S64x12800.Idx → EReal) (y : S64x12800.Idx) (h : 12800 * t.val + (y 1).val < 100000) :
    (win0_0.fill (grid0.coords t) d (iblk m c 0 t) : S64x12800.Idx → EReal) y = logits m c (ix (y 0).val (12800 * t.val + (y 1).val) (y 0).isLt h) := by
  have hi : win0_0.index t 0 = 0 ∧ win0_0.index t 1 = t.val := by rcases fin_N0 t with rfl | rfl | rfl | rfl | rfl | rfl | rfl | rfl <;> decide
  unfold Pipeline.Window.fill
  rw [dif_pos ((moved_iff t y).2 h)]
  unfold iblk
  rw [View.read_apply]
  refine Eq.trans ?_ (congrFun (V_main_arg0 m c) _)
  show V m c main_arg0 _ = V m c main_arg0 _
  refine congrArg (V m c main_arg0) (funext fun a => Fin.ext ?_)
  match a with
  | ⟨0, _⟩ => show win0_0.index t 0 * 64 + 1 * (y 0).val = (y 0).val; rw [hi.1]; omega
  | ⟨1, _⟩ => show win0_0.index t 1 * 12800 + 1 * (y 1).val = 12800 * t.val + (y 1).val; rw [hi.2]; omega

variable (a1 : Memref sig .tc .vmem S64x12800 .f32) (a2 : Memref sig .tc .vmem S1x12800 .f32)

/-- The entry of a block that a lane of a tile reads. -/
def entry (k : ℕ) (hk : k < 10) (j : S64x1280.Idx) : S64x12800.Idx := fun a => match a with
  | ⟨0, _⟩ => (⟨(j 0).val, (j 0).isLt⟩ : Fin 64)
  | ⟨1, _⟩ => (⟨1280 * k + (j 1).val, by have : (j 1).val < 1280 := (j 1).isLt; omega⟩ : Fin 12800)

/-- The entry of a mask's block that a lane of a tile reads. -/
def entry1 (k : ℕ) (hk : k < 10) (j : S64x1280.Idx) : S1x12800.Idx := fun a => match a with
  | ⟨0, _⟩ => (⟨0, by decide⟩ : Fin 1)
  | ⟨1, _⟩ => (⟨1280 * k + (j 1).val, by have : (j 1).val < 1280 := (j 1).isLt; omega⟩ : Fin 12800)

/-- The rows of the first and the last point are the masked logits: past the last column the mask is −∞, whatever the block
    holds there. -/
theorem rows_masked (t : Fin cfg0.N) (ht : t.val = 0 ∨ t.val = 7) (hc : k0_cond2 (grid0.coords t) = 1#1) (d : S64x12800.Idx → EReal)
    (X1 : BufTy.Contents (Elt Ideal) a1.view.ty) (X2 : BufTy.Contents (Elt Ideal) a2.view.ty)
    (h1 : a1.view.read (Elt Ideal) X1 = win0_0.fill (grid0.coords t) d (iblk m c 0 t)) (h2 : a2.view.read (Elt Ideal) X2 = iblk m c 1 t)
    (k : Fin k0_t1_loop.trips) (j : S64x1280.Idx) :
    rowsA (grid0.coords t) a1 a2 hc X1 X2 k j = masked (logits m c) (mask m c) (j 0).val (1280 * (10 * t.val + k.val) + (j 1).val) := by
  have hk : k.val < 10 := lt_of_lt_of_eq k.isLt tripsA
  have hj0 : (j 0).val < 64 := (j 0).isLt
  have hj1 : (j 1).val < 1280 := (j 1).isLt
  rw [rowsA_apply a1 a2 _ hc X1 X2 k j (entry k.val hk j) (entry1 k.val hk j) rfl rfl rfl rfl, h1, h2, Ideal.addf_def]
  have e2 : (iblk m c 1 t : S1x12800.Idx → EReal) (entry1 k.val hk j) = padded (mask m c) (1280 * (10 * t.val + k.val) + (j 1).val) :=
    (mask_block m c t _).trans (congrArg (padded (mask m c)) (by show 12800 * t.val + (1280 * k.val + (j 1).val) = _; omega))
  have hs : ∀ p q p' q' : EReal, p = p' → q = q' → p + q = p' + q' := fun _ _ _ _ h h' => by rw [h, h']
  unfold masked
  by_cases hn : 1280 * (10 * t.val + k.val) + (j 1).val < 100000
  · rw [dif_pos ⟨hj0, hn⟩, if_pos (by omega)]
    refine hs _ _ _ _ ?_ (e2.trans (dif_pos hn))
    have hy : 12800 * t.val + (entry k.val hk j 1).val < 100000 := by show 12800 * t.val + (1280 * k.val + (j 1).val) < _; omega
    refine (logits_block m c t d (entry k.val hk j) hy).trans (congrArg (logits m c) ?_)
    funext a
    apply Fin.ext
    match a with
    | ⟨0, _⟩ => rfl
    | ⟨1, _⟩ => show 12800 * t.val + (1280 * k.val + (j 1).val) = 1280 * (10 * t.val + k.val) + (j 1).val; omega
  · rw [dif_neg fun h => hn h.2]
    refine (hs _ _ _ _ rfl (e2.trans (dif_neg hn))).trans (EReal.add_bot _)

/-- The rows of a middle point are the logits. -/
theorem rows_plain (t : Fin cfg0.N) (ht : ¬(t.val = 0 ∨ t.val = 7)) (hc : k0_cond3 (grid0.coords t) = 1#1) (d : S64x12800.Idx → EReal)
    (X1 : BufTy.Contents (Elt Ideal) a1.view.ty)
    (h1 : a1.view.read (Elt Ideal) X1 = win0_0.fill (grid0.coords t) d (iblk m c 0 t))
    (k : Fin k0_t2_loop.trips) (j : S64x1280.Idx) :
    rowsB (grid0.coords t) a1 hc X1 k j = masked (logits m c) (mask m c) (j 0).val (1280 * (10 * t.val + k.val) + (j 1).val) := by
  have hk : k.val < 10 := lt_of_lt_of_eq k.isLt tripsB
  have hj0 : (j 0).val < 64 := (j 0).isLt
  have hj1 : (j 1).val < 1280 := (j 1).isLt
  have htt : t.val < 8 := t.isLt
  rw [rowsB_apply a1 _ hc X1 k j (entry k.val hk j) rfl rfl, h1]
  have hn : 1280 * (10 * t.val + k.val) + (j 1).val < 100000 := by omega
  unfold masked
  rw [dif_pos ⟨hj0, hn⟩, if_neg (by omega)]
  have hy : 12800 * t.val + (entry k.val hk j 1).val < 100000 := by show 12800 * t.val + (1280 * k.val + (j 1).val) < _; omega
  refine (logits_block m c t d (entry k.val hk j) hy).trans (congrArg (logits m c) ?_)
  funext a
  apply Fin.ext
  match a with
  | ⟨0, _⟩ => rfl
  | ⟨1, _⟩ => show 12800 * t.val + (1280 * k.val + (j 1).val) = 1280 * (10 * t.val + k.val) + (j 1).val; omega

end Cert.Sample.Blocks

end
-- ==== Proof.Sample.Value.lean ====
/- The kernel's run with its results named: the proof data of its pipeline, the body's obligation point by point, the
   launch, and the two result arrays in closed form. -/
module

public import proofs.«01_k».proof.Proof.Sample.Body
public import proofs.«01_k».proof.Proof.Sample.Blocks

@[expose] public section

set_option maxRecDepth 16384

noncomputable section

namespace Cert.Sample.Value

open Cert.KernelIdeal Cert.KernelIdeal.Gen Cert.Sample.Loop Cert.Sample.Score Cert.Sample.Blocks Cert.Sample.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The masked logits of a device, as the kernel makes them. -/
abbrev M (c : Dev nD) : ℕ → ℕ → EReal := masked (logits m c) (mask m c)

/-- The masked block of a point. -/
def block (c : Dev nD) (t : ℕ) : S64x12800.Idx → EReal := fun y => M m c (y 0).val (12800 * t + (y 1).val)

/-- Between the points the scratch buffers hold the state after the tiles so far; before the first, anything. -/
def inv (c : Dev nD) (t : ℕ) : sProp 𝕄 :=
  iprop((such (F := Ideal) c (Memref.whole cc0_scratch0) (fun Y => t ≠ 0 → Y = (state (M m c) (10 * t)).1)
      ∗ such (F := Ideal) c (Memref.whole cc0_scratch1) (fun Y => t ≠ 0 → Y = (state (M m c) (10 * t)).2)) ∗ ∃ r, prngReg c r)

/-- The proof data: the arrays as the region finds them; after a point the masked block, and after the last the ids. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => ids (M m c)
    | ⟨3, _⟩ => block m c t.val
  Φ t := inv m c t.val
  q _ := fullShare
  owed _ := 0

theorem defs₀_row (t : Fin cfg0.N) :
    (defs₀ (F := Ideal)) .tc cfg0.body (cfg0.bodyArgs t (cfg0.slots t)) = bodyAt0 (F := Ideal) t := by
  unfold defs₀; rw [Defs.onTc_tc]

/-- The logits' buffer as a point finds it: its block, and anything past the array's end. -/
theorem before_0 (c : Dev nD) (t : Fin cfg0.N) (d) : (dats m 0 c).before (0 : Fin 4) t d = win0_0.fill (grid0.coords t) d (iblk m c 0 t) := by
  unfold Dat.before; rw [if_pos (fetch0_0 t)]; rfl

/-- The mask's buffer as a point finds it: its block. -/
theorem before_1 (c : Dev nD) (t : Fin cfg0.N) (d) : (dats m 0 c).before (1 : Fin 4) t d = iblk m c 1 t :=
  before0_1_of m (dats m 0 c) rfl (fun _ => rfl) t d

/-- Which branches a point takes: the first. -/
theorem conds_first : ∀ t : Fin cfg0.N, t.val = 0 → (Scalar.cmpi .ne (Scalar.extui (Scalar.cmpi .eq (BitVec.ofNat 32 (grid0.coords t 0).val) 0#32) : BitVec 32) 0#32 = 1#1)
    ∧ k0_cond2 (grid0.coords t) = 1#1 ∧ ¬k0_cond3 (grid0.coords t) = 1#1 ∧ ¬k0_cond4 (grid0.coords t) = 1#1 := by decide +kernel
/-- The last. -/
theorem conds_last : ∀ t : Fin cfg0.N, t.val = 7 → (¬Scalar.cmpi .ne (Scalar.extui (Scalar.cmpi .eq (BitVec.ofNat 32 (grid0.coords t 0).val) 0#32) : BitVec 32) 0#32 = 1#1)
    ∧ k0_cond2 (grid0.coords t) = 1#1 ∧ ¬k0_cond3 (grid0.coords t) = 1#1 ∧ k0_cond4 (grid0.coords t) = 1#1 := by decide +kernel
/-- One between. -/
theorem conds_middle : ∀ t : Fin cfg0.N, ¬(t.val = 0 ∨ t.val = 7) → (¬Scalar.cmpi .ne (Scalar.extui (Scalar.cmpi .eq (BitVec.ofNat 32 (grid0.coords t 0).val) 0#32) : BitVec 32) 0#32 = 1#1)
    ∧ ¬k0_cond2 (grid0.coords t) = 1#1 ∧ k0_cond3 (grid0.coords t) = 1#1 ∧ ¬k0_cond4 (grid0.coords t) = 1#1 := by decide +kernel

/-- Ten more tiles at a point carry the state on. -/
theorem state_next (c : Dev nD) (t : Fin cfg0.N) :
    tiles (fun k => scores (M m c) (10 * (grid0.coords t 0).val + k)) (mark (grid0.coords t)) (state (M m c) (10 * t.val)) 10
      = state (M m c) (10 * (t.val + 1)) := by
  have h := state_step (M m c) (grid0.coords t)
  rw [coord t] at h ⊢
  exact h

/-- An entry of the masked block at a lane of a tile. -/
theorem block_at (c : Dev nD) (t k : ℕ) (j : S64x1280.Idx) (y : S64x12800.Idx) (h0 : (y 0).val = (j 0).val)
    (h1 : (y 1).val = 1280 * k + (j 1).val) : M m c (j 0).val (1280 * (10 * t + k) + (j 1).val) = block m c t y := by
  unfold block
  rw [h0, h1]
  congr 1
  omega

variable (arg1 : Memref sig .tc .vmem S64x12800 .f32) (harg1 : arg1.IsWhole)
    (arg2 : Memref sig .tc .vmem S1x12800 .f32) (harg2 : arg2.IsWhole) (arg3 : Memref sig .tc .vmem S64x1 .i32) (harg3 : arg3.IsWhole)
    (arg4 : Memref sig .tc .vmem S64x12800 .f32) (harg4 : arg4.IsWhole) (arg5 : Memref sig .tc .vmem S64x1280 .f32) (harg5 : arg5.IsWhole)
    (arg6 : Memref sig .tc .vmem S64x1280 .i32) (harg6 : arg6.IsWhole)

set_option maxHeartbeats 1000000 in
/-- The body at a point: it leaves the masked block, the state ten tiles on, and, at the last point, the ids. -/
theorem body_point (c : Dev nD) (t : Fin cfg0.N) (d : S64x12800.Idx → EReal)
    (f1 : BufTy.Contents (Elt Ideal) arg1.view.ty) (f2 : BufTy.Contents (Elt Ideal) arg2.view.ty)
    (f3 : BufTy.Contents (Elt Ideal) arg3.view.ty) (f4 : BufTy.Contents (Elt Ideal) arg4.view.ty)
    (f5 : BufTy.Contents (Elt Ideal) arg5.view.ty) (f6 : BufTy.Contents (Elt Ideal) arg6.view.ty)
    (h1 : arg1.view.read (Elt Ideal) f1 = win0_0.fill (grid0.coords t) d (iblk m c 0 t)) (h2 : arg2.view.read (Elt Ideal) f2 = iblk m c 1 t)
    (h5 : t.val ≠ 0 → arg5.view.read (Elt Ideal) f5 = (state (M m c) (10 * t.val)).1)
    (h6 : t.val ≠ 0 → arg6.view.read (Elt Ideal) f6 = (state (M m c) (10 * t.val)).2) :
    (iprop(at_ c arg1 f1 ∗ at_ c arg2 f2 ∗ at_ c arg3 f3 ∗ at_ c arg4 f4 ∗ at_ c arg5 f5 ∗ at_ c arg6 f6) : sProp 𝕄)
      ⊢ wp frame (wpE (defs₀ (F := Ideal)) 𝒱₀ c none) Set.univ
          (cc0__body (grid0.coords t) arg1 harg1 arg2 harg2 arg3 harg3 arg4 harg4 arg5 harg5 arg6 harg6)
          fun _ => iprop(at_ c arg1 f1 ∗ at_ c arg2 f2
            ∗ such (F := Ideal) c arg3 (fun Y => Y = if t.val = 7 then ids (M m c) else arg3.view.read (Elt Ideal) f3)
            ∗ such (F := Ideal) c arg4 (fun Y => Y = block m c t.val)
            ∗ such (F := Ideal) c arg5 (fun Y => Y = (state (M m c) (10 * (t.val + 1))).1)
            ∗ such (F := Ideal) c arg6 (fun Y => Y = (state (M m c) (10 * (t.val + 1))).2)) := by
  have hnext := state_next m c t
  iintro H
  by_cases ht : t.val = 0 ∨ t.val = 7
  · rcases ht.symm with h7 | h0
    · obtain ⟨hc1, hc2, hc3, hc4⟩ := conds_last t h7
      iapply (wp_wand_r Idealize.ShloMosaic.frame (wpE (defs₀ (F := Ideal)) 𝒱₀ (c : Thread nD τ) none) Set.univ)
      isplitl [H]
      · iapply (body_last (F := Ideal) c (grid0.coords t) arg1 harg1 arg2 harg2 arg3 harg3 arg4 harg4 arg5 harg5 arg6 harg6 hc1 hc2 hc3 hc4 f1 f2 f3 f4 f5 f6
          (fun k => scores (M m c) (10 * (grid0.coords t 0).val + k))
          (fun k => scoreA_eq arg1 arg2 _ (M m c) hc2 f1 f2 k fun j => by rw [coord t]; exact rows_masked m c arg1 arg2 t ht hc2 d f1 f2 h1 h2 k j)
          (block m c t.val) (fun k j y e0 e1 => (rows_masked m c arg1 arg2 t ht hc2 d f1 f2 h1 h2 k j).trans (block_at m c t.val k.val j y e0 e1)))
        iexact H
      · iintro %_ ⟨H1, H2, ⟨%F3, %hF3, H3⟩, ⟨%F4, %hF4, H4⟩, ⟨%F5, %hF5, H5⟩, ⟨%F6, %hF6, H6⟩⟩
        have hs' : tiles (fun k => scores (M m c) (10 * (grid0.coords t 0).val + k)) (mark (grid0.coords t))
            (arg5.view.read (Elt Ideal) f5, arg6.view.read (Elt Ideal) f6) 10 = state (M m c) (10 * (t.val + 1)) := by
          rw [h5 (by omega), h6 (by omega)]; exact hnext
        isplitl [H1]; · iexact H1
        isplitl [H2]; · iexact H2
        isplitl [H3]
        · iexists F3; isplitr
          · ipureintro
            rw [if_pos h7]
            refine hF3.trans ?_
            rw [hs', h7]; rfl
          iexact H3
        isplitl [H4]
        · iexists F4; isplitr; · ipureintro; exact funext hF4
          iexact H4
        isplitl [H5]
        · iexists F5; isplitr; · ipureintro; exact hF5.trans (congrArg Prod.fst hs')
          iexact H5
        · iexists F6; isplitr; · ipureintro; exact hF6.trans (congrArg Prod.snd hs')
          iexact H6
    · obtain ⟨hc1, hc2, hc3, hc4⟩ := conds_first t h0
      iapply (wp_wand_r Idealize.ShloMosaic.frame (wpE (defs₀ (F := Ideal)) 𝒱₀ (c : Thread nD τ) none) Set.univ)
      isplitl [H]
      · iapply (body_first (F := Ideal) c (grid0.coords t) arg1 harg1 arg2 harg2 arg3 harg3 arg4 harg4 arg5 harg5 arg6 harg6 hc1 hc2 hc3 hc4 f1 f2 f3 f4 f5 f6
          (fun k => scores (M m c) (10 * (grid0.coords t 0).val + k))
          (fun k => scoreA_eq arg1 arg2 _ (M m c) hc2 f1 f2 k fun j => by rw [coord t]; exact rows_masked m c arg1 arg2 t ht hc2 d f1 f2 h1 h2 k j)
          (block m c t.val) (fun k j y e0 e1 => (rows_masked m c arg1 arg2 t ht hc2 d f1 f2 h1 h2 k j).trans (block_at m c t.val k.val j y e0 e1)))
        iexact H
      · iintro %_ ⟨H1, H2, H3, ⟨%F4, %hF4, H4⟩, ⟨%F5, %hF5, H5⟩, ⟨%F6, %hF6, H6⟩⟩
        have hs' : tiles (fun k => scores (M m c) (10 * (grid0.coords t 0).val + k)) (mark (grid0.coords t))
            (k0_pay1, k0_pay2) 10 = state (M m c) (10 * (t.val + 1)) := by
          rw [h0] at hnext; rw [h0]; exact hnext
        isplitl [H1]; · iexact H1
        isplitl [H2]; · iexact H2
        isplitl [H3]
        · iexists f3; isplitr; · ipureintro; exact (if_neg (by omega)).symm
          iexact H3
        isplitl [H4]
        · iexists F4; isplitr; · ipureintro; exact funext hF4
          iexact H4
        isplitl [H5]
        · iexists F5; isplitr; · ipureintro; exact hF5.trans (congrArg Prod.fst hs')
          iexact H5
        · iexists F6; isplitr; · ipureintro; exact hF6.trans (congrArg Prod.snd hs')
          iexact H6
  · obtain ⟨hc1, hc2, hc3, hc4⟩ := conds_middle t ht
    iapply (wp_wand_r Idealize.ShloMosaic.frame (wpE (defs₀ (F := Ideal)) 𝒱₀ (c : Thread nD τ) none) Set.univ)
    isplitl [H]
    · iapply (body_middle (F := Ideal) c (grid0.coords t) arg1 harg1 arg2 harg2 arg3 harg3 arg4 harg4 arg5 harg5 arg6 harg6 hc1 hc2 hc3 hc4 f1 f2 f3 f4 f5 f6
        (fun k => scores (M m c) (10 * (grid0.coords t 0).val + k))
        (fun k => scoreB_eq arg1 _ (M m c) hc3 f1 k fun j => by rw [coord t]; exact rows_plain m c arg1 t ht hc3 d f1 h1 k j)
        (block m c t.val) (fun k j y e0 e1 => (rows_plain m c arg1 t ht hc3 d f1 h1 k j).trans (block_at m c t.val k.val j y e0 e1)))
      iexact H
    · iintro %_ ⟨H1, H2, H3, ⟨%F4, %hF4, H4⟩, ⟨%F5, %hF5, H5⟩, ⟨%F6, %hF6, H6⟩⟩
      have hs' : tiles (fun k => scores (M m c) (10 * (grid0.coords t 0).val + k)) (mark (grid0.coords t))
          (arg5.view.read (Elt Ideal) f5, arg6.view.read (Elt Ideal) f6) 10 = state (M m c) (10 * (t.val + 1)) := by
        rw [h5 (by omega), h6 (by omega)]; exact hnext
      isplitl [H1]; · iexact H1
      isplitl [H2]; · iexact H2
      isplitl [H3]
      · iexists f3; isplitr; · ipureintro; exact (if_neg (by omega)).symm
        iexact H3
      isplitl [H4]
      · iexists F4; isplitr; · ipureintro; exact funext hF4
        iexact H4
      isplitl [H5]
      · iexists F5; isplitr; · ipureintro; exact hF5.trans (congrArg Prod.fst hs')
        iexact H5
      · iexists F6; isplitr; · ipureintro; exact hF6.trans (congrArg Prod.snd hs')
        iexact H6

theorem idle_3 : ∀ t : Fin cfg0.N, cfg0.idle 3 (grid0.coords t) = false := by decide +kernel
theorem idle_2 : ∀ t : Fin cfg0.N, t.val ≠ 7 → cfg0.idle 2 (grid0.coords t) = true := by decide +kernel
theorem idle_2_last : ∀ t : Fin cfg0.N, t.val = 7 → cfg0.idle 2 (grid0.coords t) = false := by decide +kernel

theorem flush_2 : ∀ t : Fin cfg0.N, t.val ≠ 7 → (win0 2).flush t = false := by decide +kernel

/-- The ids' buffer after a point: the ids after the last, as it was before it otherwise. -/
theorem leaf_2 (c : Dev nD) (t : Fin cfg0.N) (d) :
    (owns (c : Thread nD τ) (stage0_2 (cfg0.slots t 2)) fullShare (if t.val = 7 then ids (M m c) else (dats m 0 c).before (2 : Fin 4) t d) : sProp 𝕄)
      ⊢ (match idle0 2 (grid0.coords t) with
          | true =>
            match (win0 2).flush t with
            | false => iprop(∃ d, owns (c : Thread nD τ) (stage0_2 (cfg0.slots t 2)) fullShare ((dats m 0 c).before (2 : Fin 4) t d))
            | true => owns (c : Thread nD τ) (stage0_2 (cfg0.slots t 2)) fullShare ((dats m 0 c).after (2 : Fin 4) t)
          | false => owns (c : Thread nD τ) (stage0_2 (cfg0.slots t 2)) fullShare ((dats m 0 c).after (2 : Fin 4) t) : sProp 𝕄) := by
  by_cases h7 : t.val = 7
  · have e : (dats m 0 c).after (2 : Fin 4) t = ids (M m c) := by dsimp only [dats]
    rw [show idle0 2 (grid0.coords t) = false from idle_2_last t h7, if_pos h7, e]
  · rw [show idle0 2 (grid0.coords t) = true from idle_2 t h7, if_neg h7, show (win0 2).flush t = false from flush_2 t h7]
    iintro H
    iexists d
    iexact H

/-- The body's obligation. -/
theorem body_obligation (c : Dev nD) :
    BodyObligationLoose (dats m 0 c) (defs₀ (F := Ideal)) 𝒱₀ () Set.univ := fun t => by
  rw [bigSep_W0, bigSep_W0, defs₀_row]
  simp only
  rw [show idle0 3 (grid0.coords t) = false from idle_3 t]
  change iprop(inv m c t.val ∗ _) ⊢ wp _ _ _ _ fun _ => iprop(inv m c (t.val + 1) ∗ _)
  unfold inv such
  iintro ⟨⟨⟨⟨%f5, %h5, Hs0⟩, ⟨%f6, %h6, Hs1⟩⟩, Hp⟩, Ho, ⟨%d0, H0⟩, ⟨%d1, H1⟩, ⟨%d2, H2⟩, ⟨%d3, H3⟩⟩
  rw [before_0 m c t d0, before_1 m c t d1]
  unfold owns
  icases H0 with ⟨%f1, %h1, H0⟩
  icases H1 with ⟨%f2, %h2, H1⟩
  icases H2 with ⟨%f3, %h3, H2⟩
  icases H3 with ⟨%f4, %h4, H3⟩
  iapply (wp_wand_r Idealize.ShloMosaic.frame (wpE (defs₀ (F := Ideal)) 𝒱₀ (c : Thread nD τ) none) Set.univ)
  isplitl [H0 H1 H2 H3 Hs0 Hs1]
  · iapply (body_point m _ _ _ _ _ _ _ _ _ _ _ _ c t d0 f1 f2 f3 f4 f5 f6 h1 h2 h5 h6)
    isplitl [H0]; · iexact H0
    isplitl [H1]; · iexact H1
    isplitl [H2]; · iexact H2
    isplitl [H3]; · iexact H3
    isplitl [Hs0]; · iexact Hs0
    iexact Hs1
  · unfold such
    iintro %_ ⟨H0, H1, ⟨%F3, %hF3, H2⟩, ⟨%F4, %hF4, H3⟩, ⟨%F5, %hF5, Hs0⟩, ⟨%F6, %hF6, Hs1⟩⟩
    isplitl [Hs0 Hs1 Hp]
    · isplitl [Hs0 Hs1]
      · isplitl [Hs0]
        · iexists F5; isplitr; · ipureintro; exact fun _ => hF5
          iexact Hs0
        · iexists F6; isplitr; · ipureintro; exact fun _ => hF6
          iexact Hs1
      · iexact Hp
    isplitl [Ho]; · iexact Ho
    isplitl [H0]
    · iexists d0
      iexists f1
      isplitr
      · ipureintro
        refine h1.trans ?_
        exact (congrArg (win0_0.fill (grid0.coords t) d0) (Window.cut_fill ..)).symm
      · iexact H0
    isplitl [H1]
    · iexists f2; isplitr; · ipureintro; exact h2
      iexact H1
    isplitl [H2]
    · have hl := leaf_2 m c t d2
      unfold owns at hl
      iapply hl
      iexists F3; isplitr
      · ipureintro; rw [← h3]; exact hF3
      iexact H2
    · iexists (block m c t.val)
      iexists F4
      isplitr
      · ipureintro
        refine hF4.trans ?_
        show block m c t.val = (win0 3).fill (grid0.coords t) (block m c t.val) ((win0 3).cut (grid0.coords t) (block m c t.val))
        exact ((win0 3).fill_cut (grid0.coords t) (block m c t.val)).symm
      · iexact H3

end Cert.Sample.Value

end
-- ==== Proof.Sample.Launch.lean ====
/- The kernel's run from a launch: its two result arrays in closed form, the arguments as launched. -/
module

public import proofs.«01_k».proof.Proof.Sample.Value
public import Idealize.ShloMosaic.Lib.StableHlo.Run

@[expose] public section

set_option maxRecDepth 16384

noncomputable section

namespace Cert.Sample.Value

open Cert.KernelIdeal Cert.KernelIdeal.Gen Cert.Sample.Loop Cert.Sample.Score Cert.Sample.Blocks Cert.Sample.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window)

variable (m : (ℓ : Loc nD τ sig) → Buf (Elt Ideal) ℓ) (ρ : Dev nD → PrngReg)

/-- The masked logits as the result array. -/
def maskedArr (c : Dev nD) : S64x100000.Idx → EReal := fun j => M m c (j 0).val (j 1).val

/-- Where the masked logits' window stands at a point, and how much of its block the array has. -/
theorem place_3 (t : Fin cfg0.N) : win0_3.index t 0 = 0 ∧ win0_3.index t 1 = t.val
    ∧ win0_3.xsize (grid0.coords t) 0 = 64 ∧ win0_3.xsize (grid0.coords t) 1 = min 12800 (100000 - 12800 * t.val) := by
  rcases fin_N0 t with rfl | rfl | rfl | rfl | rfl | rfl | rfl | rfl <;> decide +kernel

/-- Every point writes it back. -/
theorem flush_3 : ∀ t : Fin cfg0.N, (cfg0.win 3).flush t = true := by decide +kernel

/-- A point writes its block of the masked logits back. -/
theorem flushed_3 (c : Dev nD) (t : Fin cfg0.N) :
    (dats m 0 c).flushed 3 t = ((cfg0.win 3).blk t).view.read (Elt Ideal) (maskedArr m c) := by
  obtain ⟨e0, e1, -, -⟩ := place_3 t
  funext z
  rw [View.read_apply]
  show M m c (z 0).val (12800 * t.val + (z 1).val) = M m c (win0_3.index t 0 * 64 + 1 * (z 0).val) (win0_3.index t 1 * 12800 + 1 * (z 1).val)
  rw [e0, e1]
  congr 1 <;> omega

/-- Every entry is in some point's block, so the array ends as the masked logits. -/
theorem final_3 (c : Dev nD) : (dats m 0 c).arrAt 3 cfg0.N = maskedArr m c :=
  (dats m 0 c).arrAt_eq_of_cover 3 (maskedArr m c) (fun t _ => flushed_3 m c t) fun i => by
    have h0 : (i 0 : ℕ) < 64 := (i 0).isLt
    have h1 : (i 1 : ℕ) < 100000 := (i 1).isLt
    have hN : cfg0.N = 8 := N_0
    let t : Fin cfg0.N := ⟨(i 1).val / 12800, by rw [hN]; omega⟩
    have htv : t.val = (i 1).val / 12800 := rfl
    refine ⟨t, flush_3 t, ?_⟩
    show i ∈ ((View.whole main_v2_1).slice (win0_3.rect t)).set
    rw [View.set_slice_whole, Rect.mem_set_unit]
    obtain ⟨e0, e1, x0, x1⟩ := place_3 t
    intro a
    match a with
    | ⟨0, _⟩ =>
      show win0_3.index t 0 * 64 ≤ (i 0 : ℕ) ∧ (i 0 : ℕ) < win0_3.index t 0 * 64 + win0_3.xsize (grid0.coords t) 0
      rw [e0, x0]; omega
    | ⟨1, _⟩ =>
      show win0_3.index t 1 * 12800 ≤ (i 1 : ℕ) ∧ (i 1 : ℕ) < win0_3.index t 1 * 12800 + win0_3.xsize (grid0.coords t) 1
      rw [e1, x1]; omega

/-- The ids' window stays on the whole array. -/
theorem place_2 (t : Fin cfg0.N) : win0_2.index t 0 = 0 ∧ win0_2.index t 1 = 0
    ∧ win0_2.xsize (grid0.coords t) 0 = 64 ∧ win0_2.xsize (grid0.coords t) 1 = 1 := by
  rcases fin_N0 t with rfl | rfl | rfl | rfl | rfl | rfl | rfl | rfl <;> decide +kernel

/-- What is written back of the ids' window is the ids. -/
theorem flushed_2 (c : Dev nD) (t : Fin cfg0.N) :
    (dats m 0 c).flushed 2 t = ((cfg0.win 2).blk t).view.read (Elt Ideal) (ids (M m c) : S64x1.Idx → BitVec 32) := by
  obtain ⟨e0, e1, -, -⟩ := place_2 t
  have ha : (dats m 0 c).after (2 : Fin 4) t = ids (M m c) := by dsimp only [dats]
  funext z
  rw [View.read_apply]
  show (dats m 0 c).after (2 : Fin 4) t _ = _
  rw [ha]
  generalize ids (M m c) = X
  refine congrArg X (funext fun a => Fin.ext ?_)
  match a with
  | ⟨0, _⟩ => show (z 0).val = win0_2.index t 0 * 64 + 1 * (z 0).val; rw [e0]; omega
  | ⟨1, _⟩ => show (z 1).val = win0_2.index t 1 * 1 + 1 * (z 1).val; rw [e1]; omega

/-- The last point writes them, so the array ends as the ids. -/
theorem final_2 (c : Dev nD) : (dats m 0 c).arrAt 2 cfg0.N = (ids (M m c) : S64x1.Idx → BitVec 32) :=
  (dats m 0 c).arrAt_eq_of_cover 2 (ids (M m c) : S64x1.Idx → BitVec 32) (fun t _ => flushed_2 m c t) fun i => by
    have h0 : (i 0 : ℕ) < 64 := (i 0).isLt
    have h1 : (i 1 : ℕ) < 1 := (i 1).isLt
    refine ⟨t0_7, by decide +kernel, ?_⟩
    show i ∈ ((View.whole main_v2_0).slice (win0_2.rect t0_7)).set
    rw [View.set_slice_whole, Rect.mem_set_unit]
    obtain ⟨e0, e1, x0, x1⟩ := place_2 t0_7
    intro a
    match a with
    | ⟨0, _⟩ =>
      show win0_2.index t0_7 0 * 64 ≤ (i 0 : ℕ) ∧ (i 0 : ℕ) < win0_2.index t0_7 0 * 64 + win0_2.xsize (grid0.coords t0_7) 0
      rw [e0, x0]; omega
    | ⟨1, _⟩ =>
      show win0_2.index t0_7 1 * 1 ≤ (i 1 : ℕ) ∧ (i 1 : ℕ) < win0_2.index t0_7 1 * 1 + win0_2.xsize (grid0.coords t0_7) 1
      rw [e1, x1]; omega

/-- The ids as the result vector. -/
def idsArr (c : Dev nD) : S64.Idx → BitVec 32 := shapeCast S64 (ids (M m c)) shapeCasts_S64x1_S64

/-- The line after the region lays the ids out as the result vector. -/
theorem tail_ids (c : Dev nD) : Pipeline.afterTail₀ cfgs (dats m) 0 (V0 m) [hostOps1] c main_v3 = idsArr m c := by
  unfold Pipeline.afterTail₀
  simp only [hostOps1, List.flatten_cons, List.flatten_nil, List.append_nil]
  after_results
  have h2 : Pipeline.withArrays spec0 c (V0 m c) (fun w => (dats m 0 c).arrAt w cfg0.N) (Proc.devRef .tc main_v2_0) = (ids (M m c) : S64x1.Idx → BitVec 32) :=
    (Pipeline.withArrays_arr spec0 launch0.win.arr_inj c (V0 m c) (fun w => (dats m 0 c).arrAt w cfg0.N) 2).trans (final_2 m c)
  unfold idsArr
  rw [← h2]
  rfl

/-- Before the first point the scratch may hold anything. -/
theorem enter (c : Dev nD) : Pipeline.ΦA spec0 c ⊢ (dats m 0 c).Φ 0 := by
  change Pipeline.ΦA spec0 c ⊢ inv m c 0
  unfold Pipeline.ΦA inv such
  rw [scopedRest0_eq]
  simp only [Memref.view_whole, View.set_whole]
  iintro ⟨⟨⟨%g0, Hs0⟩, ⟨%g1, Hs1⟩⟩, Hp⟩
  isplitl [Hs0 Hs1]
  · isplitl [Hs0]
    · iexists g0; isplitr; · ipureintro; exact fun h => absurd rfl h
      iexact Hs0
    · iexists g1; isplitr; · ipureintro; exact fun h => absurd rfl h
      iexact Hs1
  · iexact Hp

/-- After the last the scratch is given back. -/
theorem leave (c : Dev nD) : (dats m 0 c).Φ (Fin.last cfg0.N) ⊢ Pipeline.ΦA spec0 c := by
  change inv m c cfg0.N ⊢ Pipeline.ΦA spec0 c
  unfold Pipeline.ΦA inv such
  rw [scopedRest0_eq]
  simp only [Memref.view_whole, View.set_whole]
  iintro ⟨⟨⟨%g0, %_, Hs0⟩, ⟨%g1, %_, Hs1⟩⟩, Hp⟩
  isplitl [Hs0 Hs1]
  · isplitl [Hs0]
    · iexists g0; iexact Hs0
    · iexists g1; iexact Hs1
  · iexact Hp

set_option backward.isDefEq.respectTransparency.types false in
/-- From any memory and counters at zero the kernel ends with the ids and the masked logits in its result arrays, both
    arguments as launched and every counter back at zero. -/
theorem run : θ_run defs (onTc (τ := τ) (main (F := Ideal))) (s₀ m ρ) (fun r => (∀ c : Dev nD,
      r.2.mem ((c.tc : Thread nD τ).loc main_v3) = idsArr m c
      ∧ r.2.mem ((c.tc : Thread nD τ).loc main_v2_1) = maskedArr m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_around_track cfgs (dats m) 0 launch0 defs₀ 𝒱₀ m ρ main
    (hbody := body_obligation m) (hshare := fun c => (dats m 0 c).share_full fun _ => rfl) (howed := fun _ _ => rfl)
    (V₀ := V0 m) (opss := [hostOps1]) sfx_sub sfx_fresh sfx_keeps (hmain m 𝒱₀) (hA := fun _ _ => rfl) (hin := enter m) (hout := leave m)
    (Q' := _) (hQ' := fun r h => ⟨fun c => ⟨((h.1 c).2 main_v3 (Pipeline.mem_restRefs_of main_v3 (by decide) (by decide))).trans (tail_ids m c),
      ((h.1 c).1 3).trans (final_3 m c), ((h.1 c).1 0).trans (((dats m 0 c).arrAt_in 0 rfl _).trans (V_main_arg0 m c)),
      ((h.1 c).2 main_arg1 (Pipeline.mem_restRefs_of main_arg1 (by decide) (by decide))).trans (W_main_arg1 m (dats m) c)⟩, h.2⟩)

end Cert.Sample.Value

end
-- ==== Proof.Sample.RefOps.lean ====
/- The reference as one straight line of operations. The generator's cipher is cut where its algorithm is: a start, twenty rounds and
   five key injections, each a list over typed references; the rest of the program is in three lists around it. -/
module

public import proofs.«01_k».proof.Proof.Gen.ReferenceIdeal
public import Idealize.ShloMosaic.Lib.StableHlo.Run

@[expose] public section

noncomputable section

namespace Cert.Sample.Ref

open Cert.ReferenceIdeal Cert.ReferenceIdeal.Gen
open Idealize.ShloMosaic Idealize.ShloMosaic.TcCoe Idealize.SL.Sem
open Idealize.ShloMosaic.StableHlo (TRef seq seq_append after after_cons)

variable {F : FTy → Type} [FloatOps F]

/-- A key word, and a word for every logit. -/
abbrev K := TRef sig (⟨S_, .i32⟩ : BufTy)
@[inherit_doc K]
abbrev A := TRef sig (⟨S64x100000, .i32⟩ : BufTy)

/-- The cipher's third key word, then the counters with the first two added. -/
def startOps (a0 a1 : K) (p q : A) (v0 c k2 : K) (b x c' y : A) : List (HloOp τ sig (Elt F)) :=
  [TRef.binary a0 a1 v0 xori, TRef.nullary c (constantI S_ 32 466688986#32), TRef.binary v0 c k2 xori,
   TRef.unary a0 b (broadcastInDim S64x100000 ![] bcast_S_S64x100000), TRef.binary p b x addi,
   TRef.unary a1 c' (broadcastInDim S64x100000 ![] bcast_S_S64x100000), TRef.binary q c' y addi]

/-- One round: the words added, the second rotated left by `n` (right by `n'`) and xored into the sum. -/
def roundOps (n n' : BitVec 32) (x y s : A) (c : K) (b l : A) (c' : K) (b' r o z : A) : List (HloOp τ sig (Elt F)) :=
  [TRef.binary x y s addi,
   TRef.nullary c (constantI S_ 32 n), TRef.unary c b (broadcastInDim S64x100000 ![] bcast_S_S64x100000), TRef.binary y b l Host.shli,
   TRef.nullary c' (constantI S_ 32 n'), TRef.unary c' b' (broadcastInDim S64x100000 ![] bcast_S_S64x100000),
   TRef.binary y b' r Host.shrui, TRef.binary l r o ori, TRef.binary s o z xori]

/-- One key injection: a key word into each counter, and the injection's number into the second. -/
def injOps (n : BitVec 32) (k k' : K) (x y b x' b' t : A) (c : K) (b'' y' : A) : List (HloOp τ sig (Elt F)) :=
  [TRef.unary k b (broadcastInDim S64x100000 ![] bcast_S_S64x100000), TRef.binary x b x' addi,
   TRef.unary k' b' (broadcastInDim S64x100000 ![] bcast_S_S64x100000), TRef.binary y b' t addi,
   TRef.nullary c (constantI S_ 32 n), TRef.unary c b'' (broadcastInDim S64x100000 ![] bcast_S_S64x100000),
   TRef.binary t b'' y' addi]

/-- The start, the first four rounds and an injection. -/
def cipherOps0 (arg0 arg1 : K) (arg2 arg3 : A) (φ : fn_threefry2x32.Bufs) : List (HloOp τ sig (Elt F)) :=
  startOps arg0 arg1 arg2 arg3 φ.v0 φ.c φ.v1 φ.v2 φ.v3 φ.v4 φ.v5 ++ (roundOps 13#32 19#32 φ.v3 φ.v5 φ.v6 φ.c_0 φ.v7 φ.v8 φ.c_1 φ.v9 φ.v10 φ.v11 φ.v12 ++ (roundOps 15#32 17#32 φ.v6 φ.v12 φ.v13 φ.c_2 φ.v14 φ.v15 φ.c_3 φ.v16 φ.v17 φ.v18 φ.v19 ++ (roundOps 26#32 6#32 φ.v13 φ.v19 φ.v20 φ.c_4 φ.v21 φ.v22 φ.c_5 φ.v23 φ.v24 φ.v25 φ.v26 ++ (roundOps 6#32 26#32 φ.v20 φ.v26 φ.v27 φ.c_6 φ.v28 φ.v29 φ.c_7 φ.v30 φ.v31 φ.v32 φ.v33 ++ (injOps 1#32 arg1 φ.v1 φ.v27 φ.v33 φ.v34 φ.v35 φ.v36 φ.v37 φ.c_8 φ.v38 φ.v39)))))

/-- Four further rounds and an injection. -/
def cipherOps1 (arg0 arg1 : K) (φ : fn_threefry2x32.Bufs) : List (HloOp τ sig (Elt F)) :=
  roundOps 17#32 15#32 φ.v35 φ.v39 φ.v40 φ.c_9 φ.v41 φ.v42 φ.c_10 φ.v43 φ.v44 φ.v45 φ.v46 ++ (roundOps 29#32 3#32 φ.v40 φ.v46 φ.v47 φ.c_11 φ.v48 φ.v49 φ.c_12 φ.v50 φ.v51 φ.v52 φ.v53 ++ (roundOps 16#32 16#32 φ.v47 φ.v53 φ.v54 φ.c_13 φ.v55 φ.v56 φ.c_14 φ.v57 φ.v58 φ.v59 φ.v60 ++ (roundOps 24#32 8#32 φ.v54 φ.v60 φ.v61 φ.c_15 φ.v62 φ.v63 φ.c_16 φ.v64 φ.v65 φ.v66 φ.v67 ++ (injOps 2#32 φ.v1 arg0 φ.v61 φ.v67 φ.v68 φ.v69 φ.v70 φ.v71 φ.c_17 φ.v72 φ.v73))))

/-- Four further rounds and an injection. -/
def cipherOps2 (arg0 arg1 : K) (φ : fn_threefry2x32.Bufs) : List (HloOp τ sig (Elt F)) :=
  roundOps 13#32 19#32 φ.v69 φ.v73 φ.v74 φ.c_18 φ.v75 φ.v76 φ.c_19 φ.v77 φ.v78 φ.v79 φ.v80 ++ (roundOps 15#32 17#32 φ.v74 φ.v80 φ.v81 φ.c_20 φ.v82 φ.v83 φ.c_21 φ.v84 φ.v85 φ.v86 φ.v87 ++ (roundOps 26#32 6#32 φ.v81 φ.v87 φ.v88 φ.c_22 φ.v89 φ.v90 φ.c_23 φ.v91 φ.v92 φ.v93 φ.v94 ++ (roundOps 6#32 26#32 φ.v88 φ.v94 φ.v95 φ.c_24 φ.v96 φ.v97 φ.c_25 φ.v98 φ.v99 φ.v100 φ.v101 ++ (injOps 3#32 arg0 arg1 φ.v95 φ.v101 φ.v102 φ.v103 φ.v104 φ.v105 φ.c_26 φ.v106 φ.v107))))

/-- Four further rounds and an injection. -/
def cipherOps3 (arg0 arg1 : K) (φ : fn_threefry2x32.Bufs) : List (HloOp τ sig (Elt F)) :=
  roundOps 17#32 15#32 φ.v103 φ.v107 φ.v108 φ.c_27 φ.v109 φ.v110 φ.c_28 φ.v111 φ.v112 φ.v113 φ.v114 ++ (roundOps 29#32 3#32 φ.v108 φ.v114 φ.v115 φ.c_29 φ.v116 φ.v117 φ.c_30 φ.v118 φ.v119 φ.v120 φ.v121 ++ (roundOps 16#32 16#32 φ.v115 φ.v121 φ.v122 φ.c_31 φ.v123 φ.v124 φ.c_32 φ.v125 φ.v126 φ.v127 φ.v128 ++ (roundOps 24#32 8#32 φ.v122 φ.v128 φ.v129 φ.c_33 φ.v130 φ.v131 φ.c_34 φ.v132 φ.v133 φ.v134 φ.v135 ++ (injOps 4#32 arg1 φ.v1 φ.v129 φ.v135 φ.v136 φ.v137 φ.v138 φ.v139 φ.c_35 φ.v140 φ.v141))))

/-- Four further rounds and an injection. -/
def cipherOps4 (arg0 arg1 : K) (φ : fn_threefry2x32.Bufs) : List (HloOp τ sig (Elt F)) :=
  roundOps 13#32 19#32 φ.v137 φ.v141 φ.v142 φ.c_36 φ.v143 φ.v144 φ.c_37 φ.v145 φ.v146 φ.v147 φ.v148 ++ (roundOps 15#32 17#32 φ.v142 φ.v148 φ.v149 φ.c_38 φ.v150 φ.v151 φ.c_39 φ.v152 φ.v153 φ.v154 φ.v155 ++ (roundOps 26#32 6#32 φ.v149 φ.v155 φ.v156 φ.c_40 φ.v157 φ.v158 φ.c_41 φ.v159 φ.v160 φ.v161 φ.v162 ++ (roundOps 6#32 26#32 φ.v156 φ.v162 φ.v163 φ.c_42 φ.v164 φ.v165 φ.c_43 φ.v166 φ.v167 φ.v168 φ.v169 ++ (injOps 5#32 φ.v1 arg0 φ.v163 φ.v169 φ.v170 φ.v171 φ.v172 φ.v173 φ.c_44 φ.v174 φ.v175))))

/-- The whole cipher. -/
def cipherOps (a0 a1 : K) (p q : A) (φ : fn_threefry2x32.Bufs) : List (HloOp τ sig (Elt F)) :=
  cipherOps0 a0 a1 p q φ ++ (cipherOps1 a0 a1 φ ++ (cipherOps2 a0 a1 φ ++ (cipherOps3 a0 a1 φ ++ cipherOps4 a0 a1 φ)))

/-- Before the draws: the masked logits and the key. -/
def headOps : List (HloOp τ sig (Elt F)) :=
  [TRef.nullary (.of main_cst : TRef sig ⟨S_, .f32⟩) (constant S_ .f32 0x3F800000#32),
   TRef.unary (.of main_cst : TRef sig ⟨S_, .f32⟩) (.of main_v0 : TRef sig ⟨S64x100000, .f32⟩) (broadcastInDim S64x100000 ![] bcast_S_S64x100000),
   TRef.binary (.of main_arg0 : TRef sig ⟨S64x100000, .f32⟩) (.of main_v0 : TRef sig ⟨S64x100000, .f32⟩) (.of main_v1 : TRef sig ⟨S64x100000, .f32⟩) Host.divf,
   TRef.unary (.of main_arg1 : TRef sig ⟨S100000, .f32⟩) (.of main_v2 : TRef sig ⟨S1x100000, .f32⟩) (broadcastInDim S1x100000 ![1] bcast_S100000_S1x100000_1),
   TRef.unary (.of main_v2 : TRef sig ⟨S1x100000, .f32⟩) (.of main_v3 : TRef sig ⟨S64x100000, .f32⟩) (broadcastInDim S64x100000 ![0, 1] bcast_S1x100000_S64x100000_0_1),
   TRef.binary (.of main_v1 : TRef sig ⟨S64x100000, .f32⟩) (.of main_v3 : TRef sig ⟨S64x100000, .f32⟩) (.of main_v4 : TRef sig ⟨S64x100000, .f32⟩) addf,
   TRef.nullary (.of main_c : TRef sig ⟨S_, .i32⟩) (constantI S_ 32 42#32),
   TRef.nullary (.of main_c_0 : TRef sig ⟨S_, .i32⟩) (constantI S_ 32 32#32),
   TRef.binary (.of main_c : TRef sig ⟨S_, .i32⟩) (.of main_c_0 : TRef sig ⟨S_, .i32⟩) (.of main_v5 : TRef sig ⟨S_, .i32⟩) Host.shrui,
   TRef.unary (.of main_v5 : TRef sig ⟨S_, .i32⟩) (.of main_v6 : TRef sig ⟨S_, .i32⟩) id,
   TRef.unary (.of main_v6 : TRef sig ⟨S_, .i32⟩) (.of main_v7 : TRef sig ⟨S1, .i32⟩) (broadcastInDim S1 ![] bcast_S_S1),
   TRef.nullary (.of main_c_1 : TRef sig ⟨S_, .i32⟩) (constantI S_ 32 4294967295#32),
   TRef.binary (.of main_c : TRef sig ⟨S_, .i32⟩) (.of main_c_1 : TRef sig ⟨S_, .i32⟩) (.of main_v8 : TRef sig ⟨S_, .i32⟩) andi,
   TRef.unary (.of main_v8 : TRef sig ⟨S_, .i32⟩) (.of main_v9 : TRef sig ⟨S_, .i32⟩) id,
   TRef.unary (.of main_v9 : TRef sig ⟨S_, .i32⟩) (.of main_v10 : TRef sig ⟨S1, .i32⟩) (broadcastInDim S1 ![] bcast_S_S1),
   TRef.binary (.of main_v7 : TRef sig ⟨S1, .i32⟩) (.of main_v10 : TRef sig ⟨S1, .i32⟩) (.of main_v11 : TRef sig ⟨S2, .i32⟩) (fun a b => concatenate S2 0 [⟨S1, a⟩, ⟨S1, b⟩] concatenates_S1_S1_S2_d0),
   TRef.nullary (.of main_cst_2 : TRef sig ⟨S_, .f32⟩) (constant S_ .f32 0x00000000#32),
   TRef.nullary (.of main_cst_3 : TRef sig ⟨S_, .f32⟩) (constant S_ .f32 0x3F800000#32)]

/-- The draws' bounds, the key's two words and the counters: the flat index of each logit as two words. -/
def countOps (arg0 : TRef sig (⟨S2, .i32⟩ : BufTy)) (arg1 arg2 : TRef sig (⟨S_, .f32⟩ : BufTy)) (φ : fn_uniform.Bufs) : List (HloOp τ sig (Elt F)) :=
  [TRef.unary arg1 φ.v0 id,
   TRef.unary arg2 φ.v1 id,
   TRef.unary φ.v0 φ.v2 (broadcastInDim S1x1 ![] bcast_S_S1x1),
   TRef.unary φ.v1 φ.v3 (broadcastInDim S1x1 ![] bcast_S_S1x1),
   TRef.unary arg0 φ.v4 (extractStridedSlice S1 ![0] · slices_S2_S1_0),
   TRef.reshape φ.v4 φ.v5 (rfl : (.i32 : EltTy) = .i32) shapeCasts_S1_S_,
   TRef.unary arg0 φ.v6 (extractStridedSlice S1 ![1] · slices_S2_S1_1),
   TRef.reshape φ.v6 φ.v7 (rfl : (.i32 : EltTy) = .i32) shapeCasts_S1_S_,
   TRef.nullary φ.v8 (iotaInDim S64x100000 64 0),
   TRef.nullary φ.v9 (iotaInDim S64x100000 64 1),
   TRef.nullary φ.c (constantI S_ 64 100000#64),
   TRef.unary φ.c φ.v10 (broadcastInDim S64x100000 ![] bcast_S_S64x100000),
   TRef.binary φ.v10 φ.v8 φ.v11 muli,
   TRef.nullary φ.c_0 (constantI S_ 64 1#64),
   TRef.unary φ.c_0 φ.v12 (broadcastInDim S64x100000 ![] bcast_S_S64x100000),
   TRef.binary φ.v12 φ.v9 φ.v13 muli,
   TRef.binary φ.v11 φ.v13 φ.v14 addi,
   TRef.nullary φ.c_1 (constantI S_ 64 32#64),
   TRef.unary φ.c_1 φ.v15 (broadcastInDim S64x100000 ![] bcast_S_S64x100000),
   TRef.binary φ.v14 φ.v15 φ.v16 Host.shrui,
   TRef.unary φ.v14 φ.v17 (trunci 32 · natLt_32_64),
   TRef.unary φ.v16 φ.v18 (trunci 32 · natLt_32_64)]

/-- The draw of each logit from the cipher's words. -/
def drawOps (φ : fn_uniform.Bufs) : List (HloOp τ sig (Elt F)) :=
  [TRef.binary φ.call0.v171 φ.call0.v175 φ.v20 xori,
   TRef.nullary φ.c_2 (constantI S_ 32 9#32),
   TRef.unary φ.c_2 φ.v21 (broadcastInDim S64x100000 ![] bcast_S_S64x100000),
   TRef.binary φ.v20 φ.v21 φ.v22 Host.shrui,
   TRef.nullary φ.c_3 (constantI S_ 32 1065353216#32),
   TRef.unary φ.c_3 φ.v23 (broadcastInDim S64x100000 ![] bcast_S_S64x100000),
   TRef.binary φ.v22 φ.v23 φ.v24 ori,
   TRef.unary φ.v24 φ.v25 (bitcastToFloat .f32),
   TRef.nullary φ.cst (constant S_ .f32 0x3F800000#32),
   TRef.unary φ.cst φ.v26 (broadcastInDim S64x100000 ![] bcast_S_S64x100000),
   TRef.binary φ.v25 φ.v26 φ.v27 subf,
   TRef.binary φ.v3 φ.v2 φ.v28 subf,
   TRef.unary φ.v28 φ.v29 (broadcastInDim S64x100000 ![0, 1] bcast_S1x1_S64x100000_0_1),
   TRef.binary φ.v27 φ.v29 φ.v30 mulf,
   TRef.unary φ.v2 φ.v31 (broadcastInDim S64x100000 ![0, 1] bcast_S1x1_S64x100000_0_1),
   TRef.binary φ.v30 φ.v31 φ.v32 addf,
   TRef.unary φ.v2 φ.v33 (broadcastInDim S64x100000 ![0, 1] bcast_S1x1_S64x100000_0_1),
   TRef.binary φ.v33 φ.v32 φ.v34 maximumf]

/-- The draws widened to their interval, their Gumbel values, and the noisy logits. -/
def gumbelOps : List (HloOp τ sig (Elt F)) :=
  [TRef.nullary (.of main_cst_4 : TRef sig ⟨S_, .f32⟩) (constant S_ .f32 0x3F800000#32),
   TRef.unary (.of main_cst_4 : TRef sig ⟨S_, .f32⟩) (.of main_v13 : TRef sig ⟨S64x100000, .f32⟩) (broadcastInDim S64x100000 ![] bcast_S_S64x100000),
   TRef.binary (.of main_v12 : TRef sig ⟨S64x100000, .f32⟩) (.of main_v13 : TRef sig ⟨S64x100000, .f32⟩) (.of main_v14 : TRef sig ⟨S64x100000, .f32⟩) mulf,
   TRef.nullary (.of main_cst_5 : TRef sig ⟨S_, .f32⟩) (constant S_ .f32 0x1E3CE508#32),
   TRef.unary (.of main_cst_5 : TRef sig ⟨S_, .f32⟩) (.of main_v15 : TRef sig ⟨S64x100000, .f32⟩) (broadcastInDim S64x100000 ![] bcast_S_S64x100000),
   TRef.binary (.of main_v14 : TRef sig ⟨S64x100000, .f32⟩) (.of main_v15 : TRef sig ⟨S64x100000, .f32⟩) (.of main_v16 : TRef sig ⟨S64x100000, .f32⟩) addf,
   TRef.nullary (.of main_cst_6 : TRef sig ⟨S_, .f32⟩) (constant S_ .f32 0x1E3CE508#32),
   TRef.unary (.of main_cst_6 : TRef sig ⟨S_, .f32⟩) (.of main_v17 : TRef sig ⟨S64x100000, .f32⟩) (broadcastInDim S64x100000 ![] bcast_S_S64x100000),
   TRef.binary (.of main_v17 : TRef sig ⟨S64x100000, .f32⟩) (.of main_v16 : TRef sig ⟨S64x100000, .f32⟩) (.of main_v18 : TRef sig ⟨S64x100000, .f32⟩) maximumf,
   TRef.unary (.of main_v18 : TRef sig ⟨S64x100000, .f32⟩) (.of main_v19 : TRef sig ⟨S64x100000, .f32⟩) Host.log,
   TRef.unary (.of main_v19 : TRef sig ⟨S64x100000, .f32⟩) (.of main_v20 : TRef sig ⟨S64x100000, .f32⟩) Host.negf,
   TRef.unary (.of main_v20 : TRef sig ⟨S64x100000, .f32⟩) (.of main_v21 : TRef sig ⟨S64x100000, .f32⟩) Host.log,
   TRef.unary (.of main_v21 : TRef sig ⟨S64x100000, .f32⟩) (.of main_v22 : TRef sig ⟨S64x100000, .f32⟩) Host.negf,
   TRef.binary (.of main_v4 : TRef sig ⟨S64x100000, .f32⟩) (.of main_v22 : TRef sig ⟨S64x100000, .f32⟩) (.of main_v23 : TRef sig ⟨S64x100000, .f32⟩) addf]

/-- The place of each row's greatest noisy logit. -/
def argmaxOps (arg0 : TRef sig (⟨S64x100000, .f32⟩ : BufTy)) (φ : fn_argmax.Bufs) : List (HloOp τ sig (Elt F)) :=
  [TRef.nullary φ.v0 (iotaInDim S64x100000 32 1),
   TRef.nullary φ.cst (constant S_ .f32 0xFF800000#32),
   TRef.nullary φ.c (constantI S_ 32 0#32),
   TRef.quaternary arg0 φ.v0 φ.cst φ.c φ.v1_0 (fun x y u v j => (Host.argReduce reducer_argmax_f32_i32 x y u v reducesTo_S64x100000_S64_d1 h_S_ j).1),
   TRef.quaternary arg0 φ.v0 φ.cst φ.c φ.v1_1 (fun x y u v j => (Host.argReduce reducer_argmax_f32_i32 x y u v reducesTo_S64x100000_S64_d1 h_S_ j).2)]

/-- All of the reference's operations. -/
def ops : List (HloOp τ sig (Elt F)) :=
  headOps ++ (countOps (.of main_v11) (.of main_cst_2) (.of main_cst_3) main_call0 ++
    (cipherOps main_call0.v5 main_call0.v7 main_call0.v18 main_call0.v17 main_call0.call0 ++
      (drawOps main_call0 ++ (gumbelOps ++ argmaxOps (.of main_v23) main_call1))))

/-- The cipher's body runs its line. -/
theorem cipher_eq (a0 a1 : K) (p q : A) (φ : fn_threefry2x32.Bufs) :
    fn_threefry2x32.body (F := F) a0 a1 p q φ = seq (cipherOps a0 a1 p q φ) := by
  rfl

/-- The reference runs its line. -/
theorem main_eq (d : Dev nD) : main (F := F) d = seq ops := by
  have h0 : fn_uniform.body (F := F) (.of main_v11) (.of main_cst_2) (.of main_cst_3) main_call0 =
      seq (countOps (.of main_v11) (.of main_cst_2) (.of main_cst_3) main_call0) >>= fun _ =>
        seq (cipherOps main_call0.v5 main_call0.v7 main_call0.v18 main_call0.v17 main_call0.call0) >>= fun _ => seq (drawOps main_call0) := by
    rw [← cipher_eq]; rfl
  unfold main
  rw [h0]
  simp only [ops, seq_append]
  rfl

end Cert.Sample.Ref

end
-- ==== Proof.Sample.RefCipher.lean ====
/- What the reference's line leaves: the cipher's two words of every logit as a fold of array rounds, and both results as functions of
   the launched arrays. -/
module

public import proofs.«01_k».proof.Proof.Sample.RefOps

@[expose] public section

noncomputable section

namespace Cert.Sample.Ref

open Cert.ReferenceIdeal Cert.ReferenceIdeal.Gen
open Idealize.ShloMosaic Idealize.ShloMosaic.TcCoe Idealize.SL.Sem
open Idealize.ShloMosaic.StableHlo (TRef seq seq_append after after_cons after_nil)

variable {F : FTy → Type} [FloatOps F]

/-! ## Reading a typed reference through one operation -/

variable {T Ta Tb Tc Td Ty Tz : BufTy}

/-- A typed reference's contents in a valuation. -/
def rd (x : TRef sig T) (V : Valuation τ sig (Elt F)) : T.Contents (Elt F) := x.ofBuf (V (Proc.devRef .tc x.ref))

theorem rd_nullary (y : TRef sig Ty) (v : Ty.Contents (Elt F)) (V : Valuation τ sig (Elt F)) :
    rd y ((TRef.nullary y v).result V) = v := by
  rw [rd, StableHlo.nullary_result, TRef.ofBuf_toBuf]

theorem rd_unary (x : TRef sig Ta) (y : TRef sig Ty) (f : Ta.Contents (Elt F) → Ty.Contents (Elt F)) (V : Valuation τ sig (Elt F)) :
    rd y ((TRef.unary x y f).result V) = f (rd x V) := by
  rw [rd, StableHlo.unary_result, TRef.ofBuf_toBuf, rd]

theorem rd_binary (a : TRef sig Ta) (b : TRef sig Tb) (y : TRef sig Ty) (f : Ta.Contents (Elt F) → Tb.Contents (Elt F) → Ty.Contents (Elt F))
    (V : Valuation τ sig (Elt F)) : rd y ((TRef.binary a b y f).result V) = f (rd a V) (rd b V) := by
  rw [rd, StableHlo.binary_result, TRef.ofBuf_toBuf, rd, rd]

theorem rd_quaternary (a : TRef sig Ta) (b : TRef sig Tb) (c : TRef sig Tc) (d : TRef sig Td) (y : TRef sig Ty)
    (f : Ta.Contents (Elt F) → Tb.Contents (Elt F) → Tc.Contents (Elt F) → Td.Contents (Elt F) → Ty.Contents (Elt F)) (V : Valuation τ sig (Elt F)) :
    rd y ((TRef.quaternary a b c d y f).result V) = f (rd a V) (rd b V) (rd c V) (rd d V) := by
  rw [rd, StableHlo.quaternary_result, TRef.ofBuf_toBuf, rd, rd, rd, rd]

theorem rd_nullary_ne (y : TRef sig Ty) (v : Ty.Contents (Elt F)) (V : Valuation τ sig (Elt F)) (z : TRef sig Tz) (h : z.ref ≠ y.ref) :
    rd z ((TRef.nullary y v).result V) = rd z V := by
  exact congrArg z.ofBuf (by apply StableHlo.nullary_result_ne; exact h)

theorem rd_unary_ne (x : TRef sig Ta) (y : TRef sig Ty) (f : Ta.Contents (Elt F) → Ty.Contents (Elt F)) (V : Valuation τ sig (Elt F))
    (z : TRef sig Tz) (h : z.ref ≠ y.ref) : rd z ((TRef.unary x y f).result V) = rd z V := by
  exact congrArg z.ofBuf (by apply StableHlo.unary_result_ne; exact h)

theorem rd_binary_ne (a : TRef sig Ta) (b : TRef sig Tb) (y : TRef sig Ty) (f : Ta.Contents (Elt F) → Tb.Contents (Elt F) → Ty.Contents (Elt F))
    (V : Valuation τ sig (Elt F)) (z : TRef sig Tz) (h : z.ref ≠ y.ref) : rd z ((TRef.binary a b y f).result V) = rd z V := by
  exact congrArg z.ofBuf (by apply StableHlo.binary_result_ne; exact h)

theorem rd_quaternary_ne (a : TRef sig Ta) (b : TRef sig Tb) (c : TRef sig Tc) (d : TRef sig Td) (y : TRef sig Ty)
    (f : Ta.Contents (Elt F) → Tb.Contents (Elt F) → Tc.Contents (Elt F) → Td.Contents (Elt F) → Ty.Contents (Elt F)) (V : Valuation τ sig (Elt F))
    (z : TRef sig Tz) (h : z.ref ≠ y.ref) : rd z ((TRef.quaternary a b c d y f).result V) = rd z V := by
  exact congrArg z.ofBuf (by apply StableHlo.quaternary_result_ne; exact h)

/-- Two lines in order fold as one after the other. -/
theorem after_append (l l' : List (HloOp τ sig (Elt F))) (V : Valuation τ sig (Elt F)) : after (l ++ l') V = after l' (after l V) := by
  induction l generalizing V with
  | nil => rfl
  | cons o l ih => exact ih _

/-! ## The cipher over arrays of words -/

/-- A word for every logit, a scalar word, and a word for every logit from a scalar. -/
abbrev Words := S64x100000.Idx → BitVec 32
@[inherit_doc Words]
abbrev Word := S_.Idx → BitVec 32
@[inherit_doc Words]
def spread (k : Word) : Words := broadcastInDim S64x100000 ![] bcast_S_S64x100000 k

/-- A round on arrays. -/
def roundA (n n' : BitVec 32) (p : Words × Words) : Words × Words :=
  (addi p.1 p.2, xori (addi p.1 p.2)
    (ori (Host.shli p.2 (spread (constantI S_ 32 n))) (Host.shrui p.2 (spread (constantI S_ 32 n')))))

/-- An injection on arrays. -/
def injA (n : BitVec 32) (k k' : Word) (p : Words × Words) : Words × Words :=
  (addi p.1 (spread k), addi (addi p.2 (spread k')) (spread (constantI S_ 32 n)))

/-- A valuation holding the two words at `x`, `y` and the three key words at `a`, `b`, `c`. -/
def Stage (a b c : K) (x y : A) (k k' k'' : Word) (p : Words × Words) (V : Valuation τ sig (Elt F)) : Prop :=
  rd a V = k ∧ rd b V = k' ∧ rd c V = k'' ∧ rd x V = p.1 ∧ rd y V = p.2

/-- The references of a list, all different. -/
abbrev Apart (l : List (Ref sig .tc)) : Prop := l.Nodup

set_option maxHeartbeats 1000000 in
/-- The round's line does the round and keeps the key. -/
theorem round_stage {a b c : K} {k k' k'' : Word} {p : Words × Words} (n n' : BitVec 32) (x y s : A) (e : K) (m l : A) (e' : K) (m' r o z : A)
    {V : Valuation τ sig (Elt F)} (hV : Stage a b c x y k k' k'' p V)
    (hd : Apart [a.ref, b.ref, c.ref, x.ref, y.ref, s.ref, e.ref, m.ref, l.ref, e'.ref, m'.ref, r.ref, o.ref, z.ref]) :
    Stage a b c s z k k' k'' (roundA n n' p) (after (roundOps n n' x y s e m l e' m' r o z) V) := by
  obtain ⟨h1, h2, h3, h4, h5⟩ := hV
  simp only [List.nodup_cons, List.mem_cons, not_or, List.not_mem_nil, not_false_eq_true, and_true] at hd
  obtain ⟨ha, hb, hc, hx, hy, hs, he, hm, hl, he', hm', hr, ho⟩ := hd
  simp only [Stage, roundOps, after_cons, after_nil]
  simp only [rd_nullary, rd_unary, rd_binary, rd_nullary_ne, rd_unary_ne, rd_binary_ne, ne_eq, not_false_eq_true, ha, hb, hc, hx, hy, hs, he, hm, hl,
    he', hm', hr, ho, h1, h2, h3, h4, h5]
  refine ⟨?_, ?_, ?_, ?_, ?_⟩ <;> first | trivial | rfl

set_option maxHeartbeats 1000000 in
/-- An injection's line does the injection and keeps the key. -/
theorem inj_stage {a b c : K} {k k' k'' w w' : Word} {p : Words × Words} (n : BitVec 32) (u u' : K) (x y m x' m' t : A) (e : K) (m'' y' : A)
    {V : Valuation τ sig (Elt F)} (hV : Stage a b c x y k k' k'' p V) (hw : rd u V = w) (hw' : rd u' V = w')
    (hd : Apart [a.ref, b.ref, c.ref, x.ref, y.ref, m.ref, x'.ref, m'.ref, t.ref, e.ref, m''.ref, y'.ref])
    (hu : u.ref ∈ [a.ref, b.ref, c.ref]) (hu' : u'.ref ∈ [a.ref, b.ref, c.ref]) :
    Stage a b c x' y' k k' k'' (injA n w w' p) (after (injOps n u u' x y m x' m' t e m'' y') V) := by
  obtain ⟨h1, h2, h3, h4, h5⟩ := hV
  have hq : ∀ q : Ref sig .tc, q ∈ [a.ref, b.ref, c.ref] → q ≠ m.ref ∧ q ≠ x'.ref ∧ q ≠ m'.ref ∧ q ≠ t.ref ∧ q ≠ e.ref ∧ q ≠ m''.ref ∧ q ≠ y'.ref := by
    simp only [List.nodup_cons, List.mem_cons, not_or, List.not_mem_nil, not_false_eq_true, and_true] at hd
    obtain ⟨ha, hb, hc, -⟩ := hd
    simp only [List.mem_cons, List.not_mem_nil, or_false]
    rintro q (rfl | rfl | rfl) <;> simp only [ne_eq, ha, hb, hc, not_false_eq_true, and_self]
  obtain ⟨u1, u2, u3, u4, u5, u6, u7⟩ := hq _ hu
  obtain ⟨w1, w2, w3, w4, w5, w6, w7⟩ := hq _ hu'
  simp only [List.nodup_cons, List.mem_cons, not_or, List.not_mem_nil, not_false_eq_true, and_true] at hd
  obtain ⟨ha, hb, hc, hx, hy, hm, hx', hm', ht, he, hm''⟩ := hd
  simp only [Stage, injOps, after_cons, after_nil]
  simp only [rd_nullary, rd_unary, rd_binary, rd_nullary_ne, rd_unary_ne, rd_binary_ne, ne_eq, not_false_eq_true, ha, hb, hc, hx, hy, hm, hx', hm',
    ht, he, hm'', h1, h2, h3, h4, h5, hw, hw', u1, u2, u3, u4, u5, u6, u7, w1, w2, w3, w4, w5, w6, w7]
  refine ⟨?_, ?_, ?_, ?_, ?_⟩ <;> first | trivial | rfl

set_option maxHeartbeats 1000000 in
/-- The start's line makes the third key word and adds the first two. -/
theorem start_stage {a b : K} (p q : A) (v e c : K) (m x m' y : A) (V : Valuation τ sig (Elt F))
    (hd : Apart [a.ref, b.ref, p.ref, q.ref, v.ref, e.ref, c.ref, m.ref, x.ref, m'.ref, y.ref]) :
    Stage a b c x y (rd a V) (rd b V) (xori (xori (rd a V) (rd b V)) (constantI S_ 32 466688986#32))
      (addi (rd p V) (spread (rd a V)), addi (rd q V) (spread (rd b V))) (after (startOps a b p q v e c m x m' y) V) := by
  simp only [List.nodup_cons, List.mem_cons, not_or, List.not_mem_nil, not_false_eq_true, and_true] at hd
  obtain ⟨ha, hb, hp, hq, hv, he, hc, hm, hx, hm'⟩ := hd
  simp only [Stage, startOps, after_cons, after_nil]
  simp only [rd_nullary, rd_unary, rd_binary, rd_nullary_ne, rd_unary_ne, rd_binary_ne, ne_eq, not_false_eq_true, ha, hb, hp, hq, hv, he, hc, hm, hx, hm']
  refine ⟨?_, ?_, ?_, ?_, ?_⟩ <;> first | trivial | rfl

/-- Four rounds with the first rotations. -/
def foursA (p : Words × Words) : Words × Words := roundA 6#32 26#32 (roundA 26#32 6#32 (roundA 15#32 17#32 (roundA 13#32 19#32 p)))
/-- Four rounds with the second rotations. -/
def foursB (p : Words × Words) : Words × Words := roundA 24#32 8#32 (roundA 16#32 16#32 (roundA 29#32 3#32 (roundA 17#32 15#32 p)))

/-- The cipher's twenty rounds and five injections, from the counters `p` under the key `k`, `k'`. -/
def cipherA (k k' : Word) (p : Words × Words) : Words × Words :=
  let k'' : Word := xori (xori k k') (constantI S_ 32 466688986#32)
  injA 5#32 k'' k (foursA (injA 4#32 k' k'' (foursB (injA 3#32 k k' (foursA (injA 2#32 k'' k (foursB (injA 1#32 k' k'' (foursA
    (addi p.1 (spread k), addi p.2 (spread k')))))))))))

set_option maxHeartbeats 4000000 in
set_option maxRecDepth 20000 in
/-- The cipher's line leaves the cipher of the counters. -/
theorem cipher_stage (V : Valuation τ sig (Elt F)) :
    rd main_call0_call0.v171 (after (cipherOps main_call0.v5 main_call0.v7 main_call0.v18 main_call0.v17 main_call0.call0) V) =
        (cipherA (rd main_call0.v5 V) (rd main_call0.v7 V) (rd main_call0.v18 V, rd main_call0.v17 V)).1 ∧
      rd main_call0_call0.v175 (after (cipherOps main_call0.v5 main_call0.v7 main_call0.v18 main_call0.v17 main_call0.call0) V) =
        (cipherA (rd main_call0.v5 V) (rd main_call0.v7 V) (rd main_call0.v18 V, rd main_call0.v17 V)).2 := by
  simp only [cipherOps, cipherOps0, cipherOps1, cipherOps2, cipherOps3, cipherOps4, after_append]
  have s0 := start_stage (a := main_call0.v5) (b := main_call0.v7) main_call0.v18 main_call0.v17 main_call0_call0.v0 main_call0_call0.c main_call0_call0.v1 main_call0_call0.v2 main_call0_call0.v3 main_call0_call0.v4 main_call0_call0.v5 V (by decide)
  have s1 := round_stage 13#32 19#32 main_call0_call0.v3 main_call0_call0.v5 main_call0_call0.v6 main_call0_call0.c_0 main_call0_call0.v7 main_call0_call0.v8 main_call0_call0.c_1 main_call0_call0.v9 main_call0_call0.v10 main_call0_call0.v11 main_call0_call0.v12 s0 (by decide)
  have s2 := round_stage 15#32 17#32 main_call0_call0.v6 main_call0_call0.v12 main_call0_call0.v13 main_call0_call0.c_2 main_call0_call0.v14 main_call0_call0.v15 main_call0_call0.c_3 main_call0_call0.v16 main_call0_call0.v17 main_call0_call0.v18 main_call0_call0.v19 s1 (by decide)
  have s3 := round_stage 26#32 6#32 main_call0_call0.v13 main_call0_call0.v19 main_call0_call0.v20 main_call0_call0.c_4 main_call0_call0.v21 main_call0_call0.v22 main_call0_call0.c_5 main_call0_call0.v23 main_call0_call0.v24 main_call0_call0.v25 main_call0_call0.v26 s2 (by decide)
  have s4 := round_stage 6#32 26#32 main_call0_call0.v20 main_call0_call0.v26 main_call0_call0.v27 main_call0_call0.c_6 main_call0_call0.v28 main_call0_call0.v29 main_call0_call0.c_7 main_call0_call0.v30 main_call0_call0.v31 main_call0_call0.v32 main_call0_call0.v33 s3 (by decide)
  have s5 := inj_stage 1#32 main_call0.v7 main_call0_call0.v1 main_call0_call0.v27 main_call0_call0.v33 main_call0_call0.v34 main_call0_call0.v35 main_call0_call0.v36 main_call0_call0.v37 main_call0_call0.c_8 main_call0_call0.v38 main_call0_call0.v39 s4 s4.2.1 s4.2.2.1 (by decide) (by decide) (by decide)
  have s6 := round_stage 17#32 15#32 main_call0_call0.v35 main_call0_call0.v39 main_call0_call0.v40 main_call0_call0.c_9 main_call0_call0.v41 main_call0_call0.v42 main_call0_call0.c_10 main_call0_call0.v43 main_call0_call0.v44 main_call0_call0.v45 main_call0_call0.v46 s5 (by decide)
  have s7 := round_stage 29#32 3#32 main_call0_call0.v40 main_call0_call0.v46 main_call0_call0.v47 main_call0_call0.c_11 main_call0_call0.v48 main_call0_call0.v49 main_call0_call0.c_12 main_call0_call0.v50 main_call0_call0.v51 main_call0_call0.v52 main_call0_call0.v53 s6 (by decide)
  have s8 := round_stage 16#32 16#32 main_call0_call0.v47 main_call0_call0.v53 main_call0_call0.v54 main_call0_call0.c_13 main_call0_call0.v55 main_call0_call0.v56 main_call0_call0.c_14 main_call0_call0.v57 main_call0_call0.v58 main_call0_call0.v59 main_call0_call0.v60 s7 (by decide)
  have s9 := round_stage 24#32 8#32 main_call0_call0.v54 main_call0_call0.v60 main_call0_call0.v61 main_call0_call0.c_15 main_call0_call0.v62 main_call0_call0.v63 main_call0_call0.c_16 main_call0_call0.v64 main_call0_call0.v65 main_call0_call0.v66 main_call0_call0.v67 s8 (by decide)
  have s10 := inj_stage 2#32 main_call0_call0.v1 main_call0.v5 main_call0_call0.v61 main_call0_call0.v67 main_call0_call0.v68 main_call0_call0.v69 main_call0_call0.v70 main_call0_call0.v71 main_call0_call0.c_17 main_call0_call0.v72 main_call0_call0.v73 s9 s9.2.2.1 s9.1 (by decide) (by decide) (by decide)
  have s11 := round_stage 13#32 19#32 main_call0_call0.v69 main_call0_call0.v73 main_call0_call0.v74 main_call0_call0.c_18 main_call0_call0.v75 main_call0_call0.v76 main_call0_call0.c_19 main_call0_call0.v77 main_call0_call0.v78 main_call0_call0.v79 main_call0_call0.v80 s10 (by decide)
  have s12 := round_stage 15#32 17#32 main_call0_call0.v74 main_call0_call0.v80 main_call0_call0.v81 main_call0_call0.c_20 main_call0_call0.v82 main_call0_call0.v83 main_call0_call0.c_21 main_call0_call0.v84 main_call0_call0.v85 main_call0_call0.v86 main_call0_call0.v87 s11 (by decide)
  have s13 := round_stage 26#32 6#32 main_call0_call0.v81 main_call0_call0.v87 main_call0_call0.v88 main_call0_call0.c_22 main_call0_call0.v89 main_call0_call0.v90 main_call0_call0.c_23 main_call0_call0.v91 main_call0_call0.v92 main_call0_call0.v93 main_call0_call0.v94 s12 (by decide)
  have s14 := round_stage 6#32 26#32 main_call0_call0.v88 main_call0_call0.v94 main_call0_call0.v95 main_call0_call0.c_24 main_call0_call0.v96 main_call0_call0.v97 main_call0_call0.c_25 main_call0_call0.v98 main_call0_call0.v99 main_call0_call0.v100 main_call0_call0.v101 s13 (by decide)
  have s15 := inj_stage 3#32 main_call0.v5 main_call0.v7 main_call0_call0.v95 main_call0_call0.v101 main_call0_call0.v102 main_call0_call0.v103 main_call0_call0.v104 main_call0_call0.v105 main_call0_call0.c_26 main_call0_call0.v106 main_call0_call0.v107 s14 s14.1 s14.2.1 (by decide) (by decide) (by decide)
  have s16 := round_stage 17#32 15#32 main_call0_call0.v103 main_call0_call0.v107 main_call0_call0.v108 main_call0_call0.c_27 main_call0_call0.v109 main_call0_call0.v110 main_call0_call0.c_28 main_call0_call0.v111 main_call0_call0.v112 main_call0_call0.v113 main_call0_call0.v114 s15 (by decide)
  have s17 := round_stage 29#32 3#32 main_call0_call0.v108 main_call0_call0.v114 main_call0_call0.v115 main_call0_call0.c_29 main_call0_call0.v116 main_call0_call0.v117 main_call0_call0.c_30 main_call0_call0.v118 main_call0_call0.v119 main_call0_call0.v120 main_call0_call0.v121 s16 (by decide)
  have s18 := round_stage 16#32 16#32 main_call0_call0.v115 main_call0_call0.v121 main_call0_call0.v122 main_call0_call0.c_31 main_call0_call0.v123 main_call0_call0.v124 main_call0_call0.c_32 main_call0_call0.v125 main_call0_call0.v126 main_call0_call0.v127 main_call0_call0.v128 s17 (by decide)
  have s19 := round_stage 24#32 8#32 main_call0_call0.v122 main_call0_call0.v128 main_call0_call0.v129 main_call0_call0.c_33 main_call0_call0.v130 main_call0_call0.v131 main_call0_call0.c_34 main_call0_call0.v132 main_call0_call0.v133 main_call0_call0.v134 main_call0_call0.v135 s18 (by decide)
  have s20 := inj_stage 4#32 main_call0.v7 main_call0_call0.v1 main_call0_call0.v129 main_call0_call0.v135 main_call0_call0.v136 main_call0_call0.v137 main_call0_call0.v138 main_call0_call0.v139 main_call0_call0.c_35 main_call0_call0.v140 main_call0_call0.v141 s19 s19.2.1 s19.2.2.1 (by decide) (by decide) (by decide)
  have s21 := round_stage 13#32 19#32 main_call0_call0.v137 main_call0_call0.v141 main_call0_call0.v142 main_call0_call0.c_36 main_call0_call0.v143 main_call0_call0.v144 main_call0_call0.c_37 main_call0_call0.v145 main_call0_call0.v146 main_call0_call0.v147 main_call0_call0.v148 s20 (by decide)
  have s22 := round_stage 15#32 17#32 main_call0_call0.v142 main_call0_call0.v148 main_call0_call0.v149 main_call0_call0.c_38 main_call0_call0.v150 main_call0_call0.v151 main_call0_call0.c_39 main_call0_call0.v152 main_call0_call0.v153 main_call0_call0.v154 main_call0_call0.v155 s21 (by decide)
  have s23 := round_stage 26#32 6#32 main_call0_call0.v149 main_call0_call0.v155 main_call0_call0.v156 main_call0_call0.c_40 main_call0_call0.v157 main_call0_call0.v158 main_call0_call0.c_41 main_call0_call0.v159 main_call0_call0.v160 main_call0_call0.v161 main_call0_call0.v162 s22 (by decide)
  have s24 := round_stage 6#32 26#32 main_call0_call0.v156 main_call0_call0.v162 main_call0_call0.v163 main_call0_call0.c_42 main_call0_call0.v164 main_call0_call0.v165 main_call0_call0.c_43 main_call0_call0.v166 main_call0_call0.v167 main_call0_call0.v168 main_call0_call0.v169 s23 (by decide)
  have s25 := inj_stage 5#32 main_call0_call0.v1 main_call0.v5 main_call0_call0.v163 main_call0_call0.v169 main_call0_call0.v170 main_call0_call0.v171 main_call0_call0.v172 main_call0_call0.v173 main_call0_call0.c_44 main_call0_call0.v174 main_call0_call0.v175 s24 s24.2.2.1 s24.1 (by decide) (by decide) (by decide)
  exact ⟨s25.2.2.2.1, s25.2.2.2.2⟩

end Cert.Sample.Ref

end
-- ==== Proof.Sample.RefRun.lean ====
/- The reference's run: from any memory it terminates, both arguments keep their contents, and the two results are functions of them. -/
module

public import proofs.«01_k».proof.Proof.Sample.RefCipher
public import Idealize.ShloMosaic.Lib.Quiescent

@[expose] public section

noncomputable section

namespace Cert.Sample.Ref

open Cert.ReferenceIdeal Cert.ReferenceIdeal.Gen
open Idealize.ShloMosaic Idealize.ShloMosaic.TcCoe Idealize.SL.Sem
open Idealize.ShloMosaic.StableHlo (TRef seq seq_append after after_cons after_nil launchContents)

variable {F : FTy → Type} [FloatOps F]

/-- What the cipher's line writes, in order. -/
noncomputable def cipherWrites : List (Ref sig .tc) :=
  [main_call0_call0_v0, main_call0_call0_c, main_call0_call0_v1, main_call0_call0_v2, main_call0_call0_v3, main_call0_call0_v4,
   main_call0_call0_v5, main_call0_call0_v6, main_call0_call0_c_0, main_call0_call0_v7, main_call0_call0_v8, main_call0_call0_c_1,
   main_call0_call0_v9, main_call0_call0_v10, main_call0_call0_v11, main_call0_call0_v12, main_call0_call0_v13, main_call0_call0_c_2,
   main_call0_call0_v14, main_call0_call0_v15, main_call0_call0_c_3, main_call0_call0_v16, main_call0_call0_v17, main_call0_call0_v18,
   main_call0_call0_v19, main_call0_call0_v20, main_call0_call0_c_4, main_call0_call0_v21, main_call0_call0_v22, main_call0_call0_c_5,
   main_call0_call0_v23, main_call0_call0_v24, main_call0_call0_v25, main_call0_call0_v26, main_call0_call0_v27, main_call0_call0_c_6,
   main_call0_call0_v28, main_call0_call0_v29, main_call0_call0_c_7, main_call0_call0_v30, main_call0_call0_v31, main_call0_call0_v32,
   main_call0_call0_v33, main_call0_call0_v34, main_call0_call0_v35, main_call0_call0_v36, main_call0_call0_v37, main_call0_call0_c_8,
   main_call0_call0_v38, main_call0_call0_v39, main_call0_call0_v40, main_call0_call0_c_9, main_call0_call0_v41, main_call0_call0_v42,
   main_call0_call0_c_10, main_call0_call0_v43, main_call0_call0_v44, main_call0_call0_v45, main_call0_call0_v46, main_call0_call0_v47,
   main_call0_call0_c_11, main_call0_call0_v48, main_call0_call0_v49, main_call0_call0_c_12, main_call0_call0_v50, main_call0_call0_v51,
   main_call0_call0_v52, main_call0_call0_v53, main_call0_call0_v54, main_call0_call0_c_13, main_call0_call0_v55, main_call0_call0_v56,
   main_call0_call0_c_14, main_call0_call0_v57, main_call0_call0_v58, main_call0_call0_v59, main_call0_call0_v60, main_call0_call0_v61,
   main_call0_call0_c_15, main_call0_call0_v62, main_call0_call0_v63, main_call0_call0_c_16, main_call0_call0_v64, main_call0_call0_v65,
   main_call0_call0_v66, main_call0_call0_v67, main_call0_call0_v68, main_call0_call0_v69, main_call0_call0_v70, main_call0_call0_v71,
   main_call0_call0_c_17, main_call0_call0_v72, main_call0_call0_v73, main_call0_call0_v74, main_call0_call0_c_18, main_call0_call0_v75,
   main_call0_call0_v76, main_call0_call0_c_19, main_call0_call0_v77, main_call0_call0_v78, main_call0_call0_v79, main_call0_call0_v80,
   main_call0_call0_v81, main_call0_call0_c_20, main_call0_call0_v82, main_call0_call0_v83, main_call0_call0_c_21, main_call0_call0_v84,
   main_call0_call0_v85, main_call0_call0_v86, main_call0_call0_v87, main_call0_call0_v88, main_call0_call0_c_22, main_call0_call0_v89,
   main_call0_call0_v90, main_call0_call0_c_23, main_call0_call0_v91, main_call0_call0_v92, main_call0_call0_v93, main_call0_call0_v94,
   main_call0_call0_v95, main_call0_call0_c_24, main_call0_call0_v96, main_call0_call0_v97, main_call0_call0_c_25, main_call0_call0_v98,
   main_call0_call0_v99, main_call0_call0_v100, main_call0_call0_v101, main_call0_call0_v102, main_call0_call0_v103, main_call0_call0_v104,
   main_call0_call0_v105, main_call0_call0_c_26, main_call0_call0_v106, main_call0_call0_v107, main_call0_call0_v108, main_call0_call0_c_27,
   main_call0_call0_v109, main_call0_call0_v110, main_call0_call0_c_28, main_call0_call0_v111, main_call0_call0_v112, main_call0_call0_v113,
   main_call0_call0_v114, main_call0_call0_v115, main_call0_call0_c_29, main_call0_call0_v116, main_call0_call0_v117, main_call0_call0_c_30,
   main_call0_call0_v118, main_call0_call0_v119, main_call0_call0_v120, main_call0_call0_v121, main_call0_call0_v122, main_call0_call0_c_31,
   main_call0_call0_v123, main_call0_call0_v124, main_call0_call0_c_32, main_call0_call0_v125, main_call0_call0_v126, main_call0_call0_v127,
   main_call0_call0_v128, main_call0_call0_v129, main_call0_call0_c_33, main_call0_call0_v130, main_call0_call0_v131, main_call0_call0_c_34,
   main_call0_call0_v132, main_call0_call0_v133, main_call0_call0_v134, main_call0_call0_v135, main_call0_call0_v136, main_call0_call0_v137,
   main_call0_call0_v138, main_call0_call0_v139, main_call0_call0_c_35, main_call0_call0_v140, main_call0_call0_v141, main_call0_call0_v142,
   main_call0_call0_c_36, main_call0_call0_v143, main_call0_call0_v144, main_call0_call0_c_37, main_call0_call0_v145, main_call0_call0_v146,
   main_call0_call0_v147, main_call0_call0_v148, main_call0_call0_v149, main_call0_call0_c_38, main_call0_call0_v150, main_call0_call0_v151,
   main_call0_call0_c_39, main_call0_call0_v152, main_call0_call0_v153, main_call0_call0_v154, main_call0_call0_v155, main_call0_call0_v156,
   main_call0_call0_c_40, main_call0_call0_v157, main_call0_call0_v158, main_call0_call0_c_41, main_call0_call0_v159, main_call0_call0_v160,
   main_call0_call0_v161, main_call0_call0_v162, main_call0_call0_v163, main_call0_call0_c_42, main_call0_call0_v164, main_call0_call0_v165,
   main_call0_call0_c_43, main_call0_call0_v166, main_call0_call0_v167, main_call0_call0_v168, main_call0_call0_v169, main_call0_call0_v170,
   main_call0_call0.v171.ref, main_call0_call0_v172, main_call0_call0_v173, main_call0_call0_c_44, main_call0_call0_v174, main_call0_call0.v175.ref]

set_option maxRecDepth 20000 in
/-- The cipher's line keeps every other buffer. -/
theorem cipher_keeps {Tz : BufTy} (z : TRef sig Tz) (V : Valuation τ sig (Elt F)) (hz : z.ref ∉ cipherWrites) :
    rd z (after (cipherOps main_call0.v5 main_call0.v7 main_call0.v18 main_call0.v17 main_call0.call0) V) = rd z V :=
  congrArg z.ofBuf (StableHlo.after_of_writes_sub _ V (StableHlo.forall_writes_sub_of_map (W := cipherWrites) rfl) hz)

/-! ## The values as functions of the arguments -/

/-- The masked logits. -/
def maskedF (x : FVec F S64x100000 .f32) (k : FVec F S100000 .f32) : FVec F S64x100000 .f32 :=
  addf (Host.divf x (broadcastInDim S64x100000 ![] bcast_S_S64x100000 (constant S_ .f32 0x3F800000#32)))
    (broadcastInDim S64x100000 ![0, 1] bcast_S1x100000_S64x100000_0_1 (broadcastInDim S1x100000 ![1] bcast_S100000_S1x100000_1 k))

/-- The key as one array of two words. -/
def keyPair : S2.Idx → BitVec 32 :=
  concatenate S2 0 [⟨S1, broadcastInDim S1 ![] bcast_S_S1 (id (Host.shrui (constantI S_ 32 42#32) (constantI S_ 32 32#32)))⟩,
    ⟨S1, broadcastInDim S1 ![] bcast_S_S1 (id (andi (constantI S_ 32 42#32) (constantI S_ 32 4294967295#32)))⟩] concatenates_S1_S1_S2_d0

/-- Its first word. -/
def keyHi : Word := shapeCast S_ (extractStridedSlice S1 ![0] keyPair slices_S2_S1_0) shapeCasts_S1_S_
/-- Its second word. -/
def keyLo : Word := shapeCast S_ (extractStridedSlice S1 ![1] keyPair slices_S2_S1_1) shapeCasts_S1_S_

/-- Each logit's flat index. -/
def flat : S64x100000.Idx → BitVec 64 :=
  addi (muli (broadcastInDim S64x100000 ![] bcast_S_S64x100000 (constantI S_ 64 100000#64)) (iotaInDim S64x100000 64 0))
    (muli (broadcastInDim S64x100000 ![] bcast_S_S64x100000 (constantI S_ 64 1#64)) (iotaInDim S64x100000 64 1))

/-- Its high word. -/
def flatHi : Words := trunci 32 (Host.shrui flat (broadcastInDim S64x100000 ![] bcast_S_S64x100000 (constantI S_ 64 32#64))) natLt_32_64
/-- Its low word. -/
def flatLo : Words := trunci 32 flat natLt_32_64

/-- The cipher's words of every logit. -/
def cipherF : Words × Words := cipherA keyHi keyLo (flatHi, flatLo)

/-- A float literal for every logit. -/
def lit (w : BitVec 32) : FVec F S64x100000 .f32 := broadcastInDim S64x100000 ![] bcast_S_S64x100000 (constant S_ .f32 w)

/-- A scalar for every logit by way of a one by one array. -/
def wide (x : FVec F S1x1 .f32) : FVec F S64x100000 .f32 := broadcastInDim S64x100000 ![0, 1] bcast_S1x1_S64x100000_0_1 x
@[inherit_doc wide]
def unit2 (w : BitVec 32) : FVec F S1x1 .f32 := broadcastInDim S1x1 ![] bcast_S_S1x1 (id (constant S_ .f32 w))

/-- The draws in `[0, 1)`. -/
def drawF : FVec F S64x100000 .f32 :=
  maximumf (wide (unit2 0x00000000#32))
    (addf (mulf (subf (bitcastToFloat .f32 (ori (Host.shrui (xori cipherF.1 cipherF.2) (spread (constantI S_ 32 9#32))) (spread (constantI S_ 32 1065353216#32))))
        (lit 0x3F800000#32)) (wide (subf (unit2 0x3F800000#32) (unit2 0x00000000#32)))) (wide (unit2 0x00000000#32)))

/-- The Gumbel values. -/
def gumbelF : FVec F S64x100000 .f32 :=
  Host.negf (Host.log (Host.negf (Host.log
    (maximumf (lit 0x1E3CE508#32) (addf (mulf drawF (lit 0x3F800000#32)) (lit 0x1E3CE508#32))))))

/-- The place of each row's greatest noisy logit. -/
def placeF (x : FVec F S64x100000 .f32) : S64.Idx → BitVec 32 := fun j =>
  (Host.argReduce reducer_argmax_f32_i32 x (iotaInDim S64x100000 32 1) (constant S_ .f32 0xFF800000#32) (constantI S_ 32 0#32)
    reducesTo_S64x100000_S64_d1 h_S_ j).2

/-! ## The line's segments -/

theorem rd_v5 (hn) (V : Valuation τ sig (Elt F)) :
    rd (.of main_call0_v5 : TRef sig ⟨S_, .i32⟩) ((TRef.reshape (.of main_call0_v4 : TRef sig ⟨S1, .i32⟩) (.of main_call0_v5 : TRef sig ⟨S_, .i32⟩) (rfl : (.i32 : EltTy) = .i32) hn).result V) = shapeCast S_ (rd (.of main_call0_v4 : TRef sig ⟨S1, .i32⟩) V) hn := by
  rw [rd, StableHlo.reshape_result]; rfl

theorem rd_v7 (hn) (V : Valuation τ sig (Elt F)) :
    rd (.of main_call0_v7 : TRef sig ⟨S_, .i32⟩) ((TRef.reshape (.of main_call0_v6 : TRef sig ⟨S1, .i32⟩) (.of main_call0_v7 : TRef sig ⟨S_, .i32⟩) (rfl : (.i32 : EltTy) = .i32) hn).result V) = shapeCast S_ (rd (.of main_call0_v6 : TRef sig ⟨S1, .i32⟩) V) hn := by
  rw [rd, StableHlo.reshape_result]; rfl

theorem rd_reshape_ne {T Ty Tz : BufTy} (x : TRef sig T) (y : TRef sig Ty) (he hn) (V : Valuation τ sig (Elt F)) (z : TRef sig Tz) (h : z.ref ≠ y.ref) :
    rd z ((TRef.reshape x y he hn).result V) = rd z V :=
  congrArg z.ofBuf (by apply StableHlo.reshape_result_ne; exact h)

set_option maxHeartbeats 1000000 in
/-- The opening leaves the masked logits, the key and the bounds. -/
theorem head_reads (V : Valuation τ sig (Elt F)) :
    rd (.of main_v4 : TRef sig ⟨S64x100000, .f32⟩) (after headOps V) =
        maskedF (rd (.of main_arg0 : TRef sig ⟨S64x100000, .f32⟩) V) (rd (.of main_arg1 : TRef sig ⟨S100000, .f32⟩) V) ∧
      rd (.of main_v11 : TRef sig ⟨S2, .i32⟩) (after headOps V) = keyPair ∧
      rd (.of main_cst_2 : TRef sig ⟨S_, .f32⟩) (after headOps V) = constant S_ .f32 0x00000000#32 ∧
      rd (.of main_cst_3 : TRef sig ⟨S_, .f32⟩) (after headOps V) = constant S_ .f32 0x3F800000#32 ∧
      rd (.of main_arg0 : TRef sig ⟨S64x100000, .f32⟩) (after headOps V) = rd (.of main_arg0 : TRef sig ⟨S64x100000, .f32⟩) V ∧
      rd (.of main_arg1 : TRef sig ⟨S100000, .f32⟩) (after headOps V) = rd (.of main_arg1 : TRef sig ⟨S100000, .f32⟩) V := by
  simp only [headOps, after_cons, after_nil]
  simp (disch := decide) only [rd_nullary, rd_unary, rd_binary, rd_nullary_ne, rd_unary_ne, rd_binary_ne]
  refine ⟨?_, ?_, ?_, ?_, ?_, ?_⟩ <;> first | trivial | rfl

set_option maxHeartbeats 1000000 in
/-- The counters' segment leaves the key's words, the counters and the bounds. -/
theorem count_reads (V : Valuation τ sig (Elt F)) (hk : rd (.of main_v11 : TRef sig ⟨S2, .i32⟩) V = keyPair)
    (h0 : rd (.of main_cst_2 : TRef sig ⟨S_, .f32⟩) V = constant S_ .f32 0x00000000#32)
    (h1 : rd (.of main_cst_3 : TRef sig ⟨S_, .f32⟩) V = constant S_ .f32 0x3F800000#32) :
    let V' := after (countOps (.of main_v11) (.of main_cst_2) (.of main_cst_3) main_call0) V
    rd main_call0.v5 V' = keyHi ∧ rd main_call0.v7 V' = keyLo ∧ rd main_call0.v18 V' = flatHi ∧ rd main_call0.v17 V' = flatLo ∧
      rd main_call0.v2 V' = unit2 0x00000000#32 ∧ rd main_call0.v3 V' = unit2 0x3F800000#32 ∧
      rd (.of main_v4 : TRef sig ⟨S64x100000, .f32⟩) V' = rd (.of main_v4 : TRef sig ⟨S64x100000, .f32⟩) V ∧
      rd (.of main_arg0 : TRef sig ⟨S64x100000, .f32⟩) V' = rd (.of main_arg0 : TRef sig ⟨S64x100000, .f32⟩) V ∧
      rd (.of main_arg1 : TRef sig ⟨S100000, .f32⟩) V' = rd (.of main_arg1 : TRef sig ⟨S100000, .f32⟩) V := by
  intro V'
  simp only [V', countOps, after_cons, after_nil]
  simp (disch := decide) only [rd_nullary, rd_unary, rd_binary, rd_v5, rd_v7, rd_nullary_ne, rd_unary_ne, rd_binary_ne, rd_reshape_ne, hk, h0, h1]
  refine ⟨?_, ?_, ?_, ?_, ?_, ?_, ?_, ?_, ?_⟩ <;> first | trivial | rfl

set_option maxHeartbeats 1000000 in
/-- The draws' segment. -/
theorem draw_reads (V : Valuation τ sig (Elt F)) (h1 : rd main_call0_call0.v171 V = cipherF.1) (h2 : rd main_call0_call0.v175 V = cipherF.2)
    (h3 : rd main_call0.v2 V = unit2 0x00000000#32) (h4 : rd main_call0.v3 V = unit2 0x3F800000#32) :
    rd main_call0.v34 (after (drawOps main_call0) V) = drawF ∧
      rd (.of main_v4 : TRef sig ⟨S64x100000, .f32⟩) (after (drawOps main_call0) V) = rd (.of main_v4 : TRef sig ⟨S64x100000, .f32⟩) V ∧
      rd (.of main_arg0 : TRef sig ⟨S64x100000, .f32⟩) (after (drawOps main_call0) V) = rd (.of main_arg0 : TRef sig ⟨S64x100000, .f32⟩) V ∧
      rd (.of main_arg1 : TRef sig ⟨S100000, .f32⟩) (after (drawOps main_call0) V) = rd (.of main_arg1 : TRef sig ⟨S100000, .f32⟩) V := by
  simp only [drawOps, after_cons, after_nil]
  simp (disch := decide) only [rd_nullary, rd_unary, rd_binary, rd_nullary_ne, rd_unary_ne, rd_binary_ne, h1, h2, h3, h4]
  refine ⟨?_, ?_, ?_, ?_⟩ <;> first | trivial | rfl

set_option maxHeartbeats 1000000 in
/-- The Gumbel values' segment and the argmax. -/
theorem close_reads (V : Valuation τ sig (Elt F)) (h1 : rd main_call0.v34 V = drawF) :
    rd main_call1.v1_1 (after (argmaxOps (.of main_v23) main_call1) (after gumbelOps V)) =
        placeF (addf (rd (.of main_v4 : TRef sig ⟨S64x100000, .f32⟩) V) gumbelF) ∧
      rd (.of main_v4 : TRef sig ⟨S64x100000, .f32⟩) (after (argmaxOps (.of main_v23) main_call1) (after gumbelOps V)) = rd (.of main_v4 : TRef sig ⟨S64x100000, .f32⟩) V ∧
      rd (.of main_arg0 : TRef sig ⟨S64x100000, .f32⟩) (after (argmaxOps (.of main_v23) main_call1) (after gumbelOps V)) = rd (.of main_arg0 : TRef sig ⟨S64x100000, .f32⟩) V ∧
      rd (.of main_arg1 : TRef sig ⟨S100000, .f32⟩) (after (argmaxOps (.of main_v23) main_call1) (after gumbelOps V)) = rd (.of main_arg1 : TRef sig ⟨S100000, .f32⟩) V := by
  have h1' : rd (.of main_v12 : TRef sig ⟨S64x100000, .f32⟩) V = drawF := h1
  simp only [argmaxOps, gumbelOps, after_cons, after_nil]
  simp (disch := decide) only [rd_nullary, rd_unary, rd_binary, rd_quaternary, rd_nullary_ne, rd_unary_ne, rd_binary_ne, rd_quaternary_ne, h1']
  refine ⟨?_, ?_, ?_, ?_⟩ <;> first | trivial | rfl

/-- The whole line: both results and both arguments. -/
theorem ops_reads (V : Valuation τ sig (Elt F)) :
    rd (.of main_v24 : TRef sig ⟨S64, .i32⟩) (after ops V) =
        placeF (addf (maskedF (rd (.of main_arg0 : TRef sig ⟨S64x100000, .f32⟩) V) (rd (.of main_arg1 : TRef sig ⟨S100000, .f32⟩) V)) gumbelF) ∧
      rd (.of main_v4 : TRef sig ⟨S64x100000, .f32⟩) (after ops V) =
        maskedF (rd (.of main_arg0 : TRef sig ⟨S64x100000, .f32⟩) V) (rd (.of main_arg1 : TRef sig ⟨S100000, .f32⟩) V) ∧
      rd (.of main_arg0 : TRef sig ⟨S64x100000, .f32⟩) (after ops V) = rd (.of main_arg0 : TRef sig ⟨S64x100000, .f32⟩) V ∧
      rd (.of main_arg1 : TRef sig ⟨S100000, .f32⟩) (after ops V) = rd (.of main_arg1 : TRef sig ⟨S100000, .f32⟩) V := by
  simp only [ops, after_append]
  obtain ⟨a1, a2, a3, a4, a5, a6⟩ := head_reads V
  obtain ⟨b1, b2, b3, b4, b5, b6, b7, b8, b9⟩ := count_reads (after headOps V) a2 a3 a4
  obtain ⟨c1, c2⟩ := cipher_stage (after (countOps (.of main_v11) (.of main_cst_2) (.of main_cst_3) main_call0) (after headOps V))
  rw [b1, b2, b3, b4] at c1 c2
  obtain ⟨d1, d2, d3, d4⟩ := draw_reads _ c1 c2 ((cipher_keeps main_call0.v2 _ (by decide)).trans b5) ((cipher_keeps main_call0.v3 _ (by decide)).trans b6)
  obtain ⟨e1, e2, e3, e4⟩ := close_reads _ d1
  have f2 := d2.trans ((cipher_keeps (.of main_v4 : TRef sig ⟨S64x100000, .f32⟩) _ (by decide)).trans (b7.trans a1))
  have f3 := d3.trans ((cipher_keeps (.of main_arg0 : TRef sig ⟨S64x100000, .f32⟩) _ (by decide)).trans (b8.trans a5))
  have f4 := d4.trans ((cipher_keeps (.of main_arg1 : TRef sig ⟨S100000, .f32⟩) _ (by decide)).trans (b9.trans a6))
  rw [f2] at e1
  exact ⟨e1, e2.trans f2, e3.trans f3, e4.trans f4⟩

/-! ## The run -/

/-- Every operation touches buffers of the TensorCore only. -/
theorem ops_inside : (ops (F := F)).Forall fun o => o.bufs ⊆ StableHlo.tcRefs τ sig := by
  simp only [ops, headOps, countOps, cipherOps, cipherOps0, cipherOps1, cipherOps2, cipherOps3, cipherOps4, startOps, roundOps, injOps, drawOps, gumbelOps,
    argmaxOps, List.forall_append, List.forall_cons, List.Forall, StableHlo.nullary_bufs_sub, StableHlo.unary_bufs_sub, StableHlo.binary_bufs_sub,
    StableHlo.quaternary_bufs_sub, StableHlo.reshape_bufs_sub, and_self]

/-- No operation leaves a buffer to chance. -/
theorem ops_settled : (ops (F := F)).Forall fun o => o.fresh = ∅ :=
  StableHlo.forall_fresh_of_map rfl

/-- Every weakly fair run ends with both results at their values, the arguments as launched and every counter at zero. -/
theorem run (m : (ℓ : Loc nD τ sig) → Buf (Elt F) ℓ) (ρ : Dev nD → PrngReg) :
    θ_run defs (onTc (τ := τ) main) ⟨m, fun _ => 0, ρ⟩ fun r =>
      (∀ c : Dev nD, r.2.mem ((c.tc : Thread nD τ).loc main_v24) =
          placeF (addf (maskedF (m ((c.tc : Thread nD τ).loc main_arg0)) (m ((c.tc : Thread nD τ).loc main_arg1))) gumbelF) ∧
        r.2.mem ((c.tc : Thread nD τ).loc main_v4) = maskedF (m ((c.tc : Thread nD τ).loc main_arg0)) (m ((c.tc : Thread nD τ).loc main_arg1)) ∧
        r.2.mem ((c.tc : Thread nD τ).loc main_arg0) = m ((c.tc : Thread nD τ).loc main_arg0) ∧
        r.2.mem ((c.tc : Thread nD τ).loc main_arg1) = m ((c.tc : Thread nD τ).loc main_arg1)) ∧ r.2.sem = fun _ => 0 :=
  (θ_run defs _ _).mono (fun r h => ⟨fun c => by
      obtain ⟨h1, h2, h3, h4⟩ := ops_reads (launchContents m c)
      exact ⟨(h c main_v24).trans h1, (h c main_v4).trans h2, (h c main_arg0).trans h3, (h c main_arg1).trans h4⟩,
      sem_eq_zero_of_no_sems (by decide) r.2⟩)
    (StableHlo.run_seq (by decide) (by decide) defs main (fun _ => ops) main_eq (fun _ => ops_inside) m ρ
      (fun _ => List.forall_iff_forall_mem.mp ops_settled))

end Cert.Sample.Ref

end
-- ==== Proof.Sample.RWords.lean ====
/- The reference's words and noise at a logit: the cipher's word of the logit's flat index. -/
module

public import proofs.«01_k».proof.Proof.Sample.RefRun
public import proofs.«01_k».proof.Proof.Sample.Noise
public import Idealize.ShloMosaic.Lib.Pipeline.Value

@[expose] public section

noncomputable section

namespace Cert.Sample.Ref

open Cert.ReferenceIdeal Cert.ReferenceIdeal.Gen Cert.Sample.Word
open Idealize.ShloMosaic

/-- The two words at a logit. -/
def pick (p : Words × Words) (j : S64x100000.Idx) : Pair := (p.1 j, p.2 j)

/-- A scalar spread over the logits is the scalar at each of them. -/
theorem spread_apply (k : Word) (j : S64x100000.Idx) (z : S_.Idx) : spread k j = k z :=
  congrArg k (funext fun a => a.elim0)

theorem pick_round (n n' : BitVec 32) (p : Words × Words) (j : S64x100000.Idx) (h : n.toNat < 32) (h' : n'.toNat < 32) :
    pick (roundA n n' p) j = turn n n' (pick p j) := by
  refine Prod.ext rfl ?_
  show IntOp.xori (IntOp.addi (p.1 j) (p.2 j)) (IntOp.ori (IntOp.shli _ (p.2 j) n) (IntOp.shrui _ (p.2 j) n')) = _
  rw [shl_of_lt _ _ _ h, shr_of_lt _ _ _ h']
  exact BitVec.xor_comm _ _

theorem pick_inj (n : BitVec 32) (k k' : Word) (p : Words × Words) (j : S64x100000.Idx) (z : S_.Idx) :
    pick (injA n k k' p) j = inject n (k z) (k' z) (pick p j) := by
  refine Prod.ext ?_ ?_
  · show p.1 j + spread k j = _
    rw [spread_apply k j z]; rfl
  · show p.2 j + spread k' j + n = _
    rw [spread_apply k' j z]; rfl

theorem pick_fours (p : Words × Words) (j : S64x100000.Idx) : pick (foursA p) j = fours (pick p j) := by
  unfold foursA fours
  rw [pick_round _ _ _ _ (by decide) (by decide), pick_round _ _ _ _ (by decide) (by decide), pick_round _ _ _ _ (by decide) (by decide),
    pick_round _ _ _ _ (by decide) (by decide)]

theorem pick_fours' (p : Words × Words) (j : S64x100000.Idx) : pick (foursB p) j = fours' (pick p j) := by
  unfold foursB fours'
  rw [pick_round _ _ _ _ (by decide) (by decide), pick_round _ _ _ _ (by decide) (by decide), pick_round _ _ _ _ (by decide) (by decide),
    pick_round _ _ _ _ (by decide) (by decide)]

/-- The cipher over arrays is the cipher at each logit. -/
theorem pick_cipher (k k' : Word) (p : Words × Words) (j : S64x100000.Idx) (z : S_.Idx) :
    pick (cipherA k k' p) j = cipher (k z) (k' z) (pick p j) := by
  unfold cipherA cipher
  rw [pick_inj _ _ _ _ _ z, pick_fours, pick_inj _ _ _ _ _ z, pick_fours', pick_inj _ _ _ _ _ z, pick_fours, pick_inj _ _ _ _ _ z, pick_fours',
    pick_inj _ _ _ _ _ z, pick_fours]
  have h : pick (addi p.1 (spread k), addi p.2 (spread k')) j = ((pick p j).1 + k z, (pick p j).2 + k' z) := by
    refine Prod.ext ?_ ?_
    · show p.1 j + spread k j = _
      rw [spread_apply k j z]; rfl
    · show p.2 j + spread k' j = _
      rw [spread_apply k' j z]; rfl
  rw [h]
  rfl

/-- The only index of a scalar. -/
def dot : S_.Idx := fun a => a.elim0

/-- The only index of a one-element array. -/
def dot1 : S1.Idx
  | ⟨0, _⟩ => (0 : Fin 1)

/-- The key's first word is zero. -/
theorem keyPair_zero (j : S2.Idx) (h : (j 0).val = 0) : keyPair j = 0#32 := by
  unfold keyPair
  rw [concatenate_pair_apply_left (t := S2) 0 _ _ concatenates_S1_S1_S2_d0 j rfl dot1
    (fun b => by obtain rfl : b = 0 := Subsingleton.elim (α := Fin 1) _ _; exact h.symm)]
  decide

/-- The key's second word is 42. -/
theorem keyPair_one (j : S2.Idx) (h : (j 0).val = 1) : keyPair j = 42#32 := by
  unfold keyPair
  rw [concatenate_pair_apply_right (t := S2) 0 _ _ concatenates_S1_S1_S2_d0 j rfl rfl dot1
    (fun b hb => absurd (Subsingleton.elim (α := Fin 1) _ _) hb) (by exact h.symm)]
  decide

theorem keyHi_apply : keyHi dot = 0#32 := by
  unfold keyHi shapeCast extractStridedSlice
  refine keyPair_zero _ ?_
  have h : ∀ i : S1.Idx, 0 + (i 0).val = 0 := fun i => by have : (i 0).val < 1 := (i 0).isLt; omega
  exact h _

theorem keyLo_apply : keyLo dot = 42#32 := by
  unfold keyLo shapeCast extractStridedSlice
  refine keyPair_one _ ?_
  have h : ∀ i : S1.Idx, 1 + (i 0).val = 1 := fun i => by have : (i 0).val < 1 := (i 0).isLt; omega
  exact h _
/-- A logit's flat index as a natural number. -/
theorem flat_toNat (j : S64x100000.Idx) : (flat j).toNat = (j 0).val * 100000 + (j 1).val := by
  have h0 : (j 0).val < 64 := (j 0).isLt
  have h1 : (j 1).val < 100000 := (j 1).isLt
  show ((100000#64 : BitVec 64) * BitVec.ofNat 64 (j 0).val + 1#64 * BitVec.ofNat 64 (j 1).val).toNat = _
  rw [BitVec.toNat_add, BitVec.toNat_mul, BitVec.toNat_mul, BitVec.toNat_ofNat, BitVec.toNat_ofNat, BitVec.toNat_ofNat, BitVec.toNat_ofNat]
  omega

/-- The words are the cipher's of the logit's flat index. -/
theorem cipherF_apply (j : S64x100000.Idx) :
    pick cipherF j = cipher 0#32 42#32 (0#32, BitVec.ofNat 32 ((j 0).val * 100000 + (j 1).val)) := by
  have h0 : (j 0).val < 64 := (j 0).isLt
  have h1 : (j 1).val < 100000 := (j 1).isLt
  unfold cipherF
  rw [pick_cipher _ _ _ _ dot, keyHi_apply, keyLo_apply]
  congr 1
  refine Prod.ext ?_ ?_
  · show BitVec.setWidth 32 (IntOp.shrui _ (flat j) 32#64) = 0#32
    rw [show IntOp.shrui _ (flat j) 32#64 = flat j >>> 32#64 from if_pos (by decide)]
    refine BitVec.eq_of_toNat_eq ?_
    rw [BitVec.toNat_setWidth, show flat j >>> 32#64 = flat j >>> (32 : ℕ) from rfl, BitVec.toNat_ushiftRight, flat_toNat, Nat.shiftRight_eq_div_pow]
    rw [Nat.div_eq_of_lt (by omega)]
    rfl
  · show BitVec.setWidth 32 (flat j) = _
    refine BitVec.eq_of_toNat_eq ?_
    rw [BitVec.toNat_setWidth, flat_toNat, BitVec.toNat_ofNat]

/-- The draw at a logit, operation by operation. -/
theorem drawF_at {F : FTy → Type} [FloatOps F] (j : S64x100000.Idx) :
    (drawF (F := F)) j = FloatOps.maximumf (FloatOps.ofBits .f32 0x00000000#32)
      (FloatOps.addf (FloatOps.mulf (FloatOps.subf
          (FloatOps.ofBits .f32 (IntOp.ori (IntOp.shrui .host ((pick cipherF j).1 ^^^ (pick cipherF j).2) 9#32) 1065353216#32))
            (FloatOps.ofBits .f32 0x3F800000#32)) (FloatOps.subf (FloatOps.ofBits .f32 0x3F800000#32) (FloatOps.ofBits .f32 0x00000000#32)))
          (FloatOps.ofBits .f32 0x00000000#32)) := by
  unfold drawF
  generalize cipherF = p
  rfl

/-- The draw at a logit, with its clamp. -/
theorem drawF_apply (j : S64x100000.Idx) :
    (drawF (F := Ideal)) j = max (Ideal.ofBits .f32 0x00000000#32)
      ((Noise.unit (draw (BitVec.ofNat 32 ((j 0).val * 100000 + (j 1).val))) - Ideal.ofBits .f32 0x3F800000#32)
            * (Ideal.ofBits .f32 0x3F800000#32 - Ideal.ofBits .f32 0x00000000#32) + Ideal.ofBits .f32 0x00000000#32) := by
  rw [drawF_at, cipherF_apply, shr_of_lt .host _ 9#32 (by decide)]
  simp only [Ideal.maximumf_def, Ideal.addf_def, Ideal.mulf_def, Ideal.subf_def, Ideal.ofBits_def]
  unfold draw Noise.unit IntOp.ori
  with_reducible rfl

/-- The noise at a logit, operation by operation. -/
theorem gumbelF_at {F : FTy → Type} [FloatOps F] (j : S64x100000.Idx) :
    (gumbelF (F := F)) j = FloatOps.hostNegf (FloatOps.hostUnary .log (FloatOps.hostNegf (FloatOps.hostUnary .log
      (FloatOps.maximumf ((lit 0x1E3CE508#32 : FVec F S64x100000 .f32) j)
        (FloatOps.addf (FloatOps.mulf (drawF j) ((lit 0x3F800000#32 : FVec F S64x100000 .f32) j)) ((lit 0x1E3CE508#32 : FVec F S64x100000 .f32) j)))))) := rfl

/-- The noise at a logit. -/
theorem gumbelF_apply (j : S64x100000.Idx) :
    (gumbelF (F := Ideal)) j = Noise.noise (draw (BitVec.ofNat 32 ((j 0).val * 100000 + (j 1).val))) := by
  have hl : ∀ w, (lit w : FVec Ideal S64x100000 .f32) j = Ideal.ofBits .f32 w := fun _ => rfl
  rw [gumbelF_at, hl, hl, ← Noise.noise_clamped, ← drawF_apply]
  simp only [Ideal.hostUnary_log_def, Ideal.maximumf_def, Ideal.addf_def, Ideal.mulf_def, Ideal.hostNegf_def, Ideal.negf_def]

end Cert.Sample.Ref
-- ==== Proof.Sample.First.lean ====
/- The first place of a greatest value in a row, and the two reductions that look for it: the reference's fold of pairs, and
   the signed minimum over a finite set of marks. -/
module

public import Idealize.ShloMosaic.PureOps.Ideal.Laws
public import Idealize.ShloMosaic.PureOps.Reduce

@[expose] public section

noncomputable section

namespace Cert.Sample.First

open Idealize.ShloMosaic

/-- `n` is the first of the places below `N` at which `S` is greatest. -/
def IsFirst (S : ℕ → EReal) (n N : ℕ) : Prop := n < N ∧ (∀ k < N, S k ≤ S n) ∧ ∀ k < n, S k < S n

/-- There is one such place. -/
theorem IsFirst.unique {S : ℕ → EReal} {n n' N : ℕ} (h : IsFirst S n N) (h' : IsFirst S n' N) : n = n' := by
  rcases lt_trichotomy n n' with hl | he | hl
  · exact absurd (h'.2.2 n hl) (not_lt.2 (h.2.1 n' h'.1))
  · exact he
  · exact absurd (h.2.2 n' hl) (not_lt.2 (h'.2.1 n h.1))

/-- The first place depends on the values below the bound only. -/
theorem IsFirst.congr {S S' : ℕ → EReal} {n N : ℕ} (h : IsFirst S n N) (he : ∀ k < N, S k = S' k) : IsFirst S' n N :=
  ⟨h.1, fun k hk => by rw [← he k hk, ← he n h.1]; exact h.2.1 k hk,
    fun k hk => by rw [← he k (lt_trans hk h.1), ← he n h.1]; exact h.2.2 k hk⟩

/-! ## Compares and selects -/

theorem ogt_iff (a b : EReal) : (FloatOps.cmpf (F := Ideal) (φ := .f32) .ogt a b = 1#1) ↔ b < a := by
  rw [Ideal.cmpf_def]; by_cases h : b < a <;> simp [Ideal.cmp, h]

theorem oeq_iff (a b : EReal) : (FloatOps.cmpf (F := Ideal) (φ := .f32) .oeq a b = 1#1) ↔ a = b := by
  rw [Ideal.cmpf_def]; by_cases h : a = b <;> simp [Ideal.cmp, h]

theorem select_pos {α : Type} {c : BitVec 1} (h : c = 1#1) (x y : α) : Scalar.select c x y = x := by
  subst h; rfl

theorem select_neg {α : Type} {c : BitVec 1} (h : ¬c = 1#1) (x y : α) : Scalar.select c x y = y := by
  unfold Scalar.select; exact if_neg h

theorem slt_iff (a b : BitVec 32) : (IntOp.cmpi .slt a b = 1#1) ↔ a.toInt < b.toInt := by
  unfold IntOp.cmpi
  by_cases h : a.toInt < b.toInt <;> simp [BitVec.slt, h]

/-! ## The fold of pairs -/

/-- A pair no other beats: a greater value, or the same value no later. -/
def Over (p q : EReal × BitVec 32) : Prop := q.1 < p.1 ∨ (q.1 = p.1 ∧ p.2.toInt ≤ q.2.toInt)

theorem Over.refl (p : EReal × BitVec 32) : Over p p := .inr ⟨rfl, le_rfl⟩

theorem Over.trans {p q r : EReal × BitVec 32} (h : Over p q) (h' : Over q r) : Over p r := by
  rcases h with h | ⟨h, i⟩ <;> rcases h' with h' | ⟨h', i'⟩
  · exact .inl (lt_trans h' h)
  · exact .inl (h' ▸ h)
  · exact .inl (h ▸ h')
  · exact .inr ⟨h'.trans h, le_trans i i'⟩

/-- Folding a step that keeps the better of two pairs gives one of the pairs, over all of them. -/
theorem foldl_over (f : EReal × BitVec 32 → EReal × BitVec 32 → EReal × BitVec 32)
    (hf : ∀ a b, (f a b = a ∧ Over a b) ∨ (f a b = b ∧ Over b a)) : ∀ (l : List (EReal × BitVec 32)) (p : EReal × BitVec 32),
    l.foldl f p ∈ p :: l ∧ ∀ q ∈ p :: l, Over (l.foldl f p) q
  | [], p => ⟨by simp, fun q hq => by
      rw [List.mem_singleton] at hq; subst hq; exact Over.refl _⟩
  | b :: l, p => by
    obtain ⟨hm, ho⟩ := foldl_over f hf l (f p b)
    rw [List.foldl_cons]
    have h2 : Over (l.foldl f (f p b)) (f p b) := ho _ (List.mem_cons_self ..)
    have hpb : Over (f p b) p ∧ Over (f p b) b ∧ (f p b = p ∨ f p b = b) := by
      rcases hf p b with ⟨e, h⟩ | ⟨e, h⟩ <;> rw [e]
      · exact ⟨Over.refl _, h, .inl rfl⟩
      · exact ⟨h, Over.refl _, .inr rfl⟩
    refine ⟨?_, fun q hq => ?_⟩
    · rcases List.mem_cons.1 hm with h | h
      · rw [h]
        rcases hpb.2.2 with e | e <;> rw [e] <;> simp
      · exact List.mem_cons_of_mem _ (List.mem_cons_of_mem _ h)
    · rcases List.mem_cons.1 hq with e | h
      · rw [e]; exact h2.trans hpb.1
      · rcases List.mem_cons.1 h with e | h
        · rw [e]; exact h2.trans hpb.2.1
        · exact ho q (List.mem_cons_of_mem _ h)

/-- The pairs a result index is reduced from are those of the source indices that drop to it. -/
theorem mem_fiber {s t : Shape} {axes : List (Fin s.rank)} {α β : Type} (x : s.Idx → α) (y : s.Idx → β) (h : s.ReducesTo axes t) (j : t.Idx)
    (p : α × β) : p ∈ Host.argReduceFiber x y h j ↔ ∃ i, h.drop i = j ∧ p = (x i, y i) := by
  unfold Host.argReduceFiber
  constructor
  · intro hp
    obtain ⟨n, hn, e⟩ := List.mem_map.1 hp
    exact ⟨_, of_decide_eq_true (List.mem_filter.1 hn).2, e.symm⟩
  · rintro ⟨i, hd, e⟩
    refine List.mem_map.2 ⟨s.rowMajor i, List.mem_filter.2 ⟨List.mem_finRange _, ?_⟩, ?_⟩
    · rw [Equiv.symm_apply_apply]; exact decide_eq_true hd
    · rw [Equiv.symm_apply_apply]; exact e.symm

/-- An arg-reduction over the extended reals is the fold over that list. -/
theorem argReduce_fold {s t u : Shape} {axes : List (Fin s.rank)} (f : EReal × BitVec 32 → EReal × BitVec 32 → EReal × BitVec 32)
    (x : FVec Ideal s .f32) (y : s.Idx → BitVec 32) (ix : u.Idx → EReal) (iy : u.Idx → BitVec 32) (h : s.ReducesTo axes t) (hu : 0 < u.numel)
    (j : t.Idx) : Host.argReduce (F := Ideal) (φ := .f32) f x y ix iy h hu j
      = (Host.argReduceFiber x y h j).foldl f (ix (Shape.Idx.first hu), iy (Shape.Idx.first hu)) := by
  rw [Ideal.argReduce_eq_reduce2]
  exact Host.reduce2_eq_foldl_fiber f x y ix iy h hu j

/-! ## The minimum of marks -/

/-- A signed minimum over a finite set is below every mark, and is one of them or the start. -/
theorem fold_minsi {ι : Type} (s : Finset ι) (f : ι → BitVec 32) (b : BitVec 32) :
    (∀ x ∈ s, (s.fold IntOp.minsi b f).toInt ≤ (f x).toInt) ∧ (s.fold IntOp.minsi b f = b ∨ ∃ x ∈ s, s.fold IntOp.minsi b f = f x) := by
  classical
  induction s using Finset.induction_on with
  | empty => exact ⟨fun x hx => absurd hx (Finset.notMem_empty x), .inl rfl⟩
  | insert a s ha ih =>
    rw [Finset.fold_insert ha]
    have hm : ∀ x y : BitVec 32, (IntOp.minsi x y = x ∧ x.toInt ≤ y.toInt) ∨ (IntOp.minsi x y = y ∧ y.toInt ≤ x.toInt) := by
      intro x y
      unfold IntOp.minsi
      by_cases h : x.toInt < y.toInt
      · exact .inl ⟨if_pos (by simp [BitVec.slt, h]), le_of_lt h⟩
      · exact .inr ⟨if_neg (by simp [BitVec.slt, h]), not_lt.1 h⟩
    rcases hm (f a) (s.fold IntOp.minsi b f) with ⟨e, h⟩ | ⟨e, h⟩ <;> rw [e]
    · refine ⟨fun x hx => ?_, .inr ⟨a, Finset.mem_insert_self .., rfl⟩⟩
      rcases Finset.mem_insert.1 hx with rfl | hx
      · exact le_rfl
      · exact le_trans h (ih.1 x hx)
    · refine ⟨fun x hx => ?_, ?_⟩
      · rcases Finset.mem_insert.1 hx with rfl | hx
        · exact h
        · exact ih.1 x hx
      · rcases ih.2 with h | ⟨x, hx, h⟩
        · exact .inl h
        · exact .inr ⟨x, Finset.mem_insert_of_mem hx, h⟩

/-- A maximum over a finite set is above every value, and is one of them or the start. -/
theorem fold_max {ι : Type} (s : Finset ι) (f : ι → EReal) (b : EReal) :
    (∀ x ∈ s, f x ≤ s.fold max b f) ∧ (s.fold max b f = b ∨ ∃ x ∈ s, f x = s.fold max b f) := by
  refine ⟨fun x hx => (Finset.le_fold_max _).2 (.inr ⟨x, hx, le_rfl⟩), ?_⟩
  rcases (Finset.le_fold_max (s := s) (f := f) (b := b) (s.fold max b f)).1 le_rfl with h | ⟨x, hx, h⟩
  · exact .inl (le_antisymm h ((Finset.le_fold_max _).2 (.inl le_rfl)))
  · exact .inr ⟨x, hx, le_antisymm ((Finset.le_fold_max _).2 (.inr ⟨x, hx, le_rfl⟩)) h⟩

/-- Eighty tiles of 1280 lanes: where each lane holds its first greatest value, the least index among the lanes that hold the
    greatest of all is the first place of the greatest value. -/
theorem pick_first (S : ℕ → EReal) (hS : ∀ n, 100000 ≤ n → S n = ⊥) (v : ℕ → EReal) (t : ℕ → ℕ)
    (ht : ∀ l < 1280, t l < 80 ∧ v l = S (1280 * t l + l) ∧ (∀ g < 80, S (1280 * g + l) ≤ v l) ∧ ∀ g < t l, S (1280 * g + l) < v l)
    (R : EReal) (hR : ∀ l < 1280, v l ≤ R) (hR' : R = ⊥ ∨ ∃ l < 1280, v l = R) (n : ℕ) (hle : ∀ l < 1280, v l = R → n ≤ 1280 * t l + l)
    (hn : (∃ l < 1280, v l = R ∧ n = 1280 * t l + l) ∨ 100000 ≤ n) : IsFirst S n 100000 := by
  have hlt : n < 100000 := by
    by_cases hb : R = ⊥
    · have h0 := ht 0 (by omega)
      have hv : v 0 = ⊥ := le_bot_iff.1 (hb ▸ hR 0 (by omega))
      have hl := hle 0 (by omega) (hv.trans hb.symm)
      have : t 0 = 0 := by
        by_contra hne
        have := h0.2.2.2 0 (by omega)
        rw [hv] at this
        exact absurd this not_lt_bot
      omega
    · rcases hR' with h | ⟨l, hl, h⟩
      · exact absurd h hb
      · have := hle l hl h
        by_contra hge
        exact hb (by rw [← h, (ht l hl).2.1]; exact hS _ (by omega))
  obtain ⟨l, hl, hv, hnl⟩ : ∃ l < 1280, v l = R ∧ n = 1280 * t l + l := by
    rcases hn with h | h
    · exact h
    · omega
  have hSn : S n = R := by rw [hnl, ← (ht l hl).2.1, hv]
  have hk : ∀ k < 100000, S k ≤ v (k % 1280) := fun k hk => by
    have := (ht (k % 1280) (by omega)).2.2.1 (k / 1280) (by omega)
    rwa [show 1280 * (k / 1280) + k % 1280 = k by omega] at this
  refine ⟨hlt, fun k h => ?_, fun k h => ?_⟩
  · rw [hSn]; exact le_trans (hk k h) (hR _ (by omega))
  · rw [hSn]
    refine lt_of_le_of_ne (le_trans (hk k (by omega)) (hR _ (by omega))) fun he => ?_
    have hvk : v (k % 1280) = R := le_antisymm (hR _ (by omega)) (he ▸ hk k (by omega))
    have hl2 := hle (k % 1280) (by omega) hvk
    have hlt2 : k / 1280 < t (k % 1280) := by omega
    have := (ht (k % 1280) (by omega)).2.2.2 (k / 1280) hlt2
    rw [show 1280 * (k / 1280) + k % 1280 = k by omega, he, hvk] at this
    exact absurd this (lt_irrefl _)

/-- A word below 2³¹ read signed is its number. -/
theorem toInt_ofNat (n : ℕ) (h : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

end Cert.Sample.First

end
-- ==== Proof.Sample.RefPlace.lean ====
/- The reference's ids: each row's first place of its greatest score. -/
module

public import proofs.«01_k».proof.Proof.Sample.RefRun
public import proofs.«01_k».proof.Proof.Sample.First

@[expose] public section

noncomputable section

namespace Cert.Sample.Ref

open Cert.ReferenceIdeal Cert.ReferenceIdeal.Gen Cert.Sample.First
open Idealize.ShloMosaic

/-- The reference's step keeps the better of two pairs. -/
theorem reducer_over (a b : EReal × BitVec 32) :
    (reducer_argmax_f32_i32 (F := Ideal) a b = a ∧ Over a b) ∨ (reducer_argmax_f32_i32 (F := Ideal) a b = b ∧ Over b a) := by
  have hune : FloatOps.cmpf (F := Ideal) (φ := .f32) .une a.1 a.1 = 0#1 := by rw [Ideal.cmpf_def]; simp [Ideal.cmp]
  have hr : reducer_argmax_f32_i32 (F := Ideal) a b = (Scalar.select (FloatOps.cmpf (F := Ideal) (φ := .f32) .ogt a.1 b.1) a.1 b.1,
      Scalar.select (FloatOps.cmpf (F := Ideal) (φ := .f32) .ogt a.1 b.1 ||| (FloatOps.cmpf (F := Ideal) (φ := .f32) .oeq a.1 b.1 &&& IntOp.cmpi .slt a.2 b.2)) a.2 b.2) := by
    unfold reducer_argmax_f32_i32
    simp only [IntOp.ori, IntOp.andi, hune, BitVec.or_zero]
  rw [hr]
  have hbit : ∀ x : BitVec 1, ¬x = 1#1 → x = 0#1 := by decide
  by_cases h : b.1 < a.1
  · have e := (ogt_iff a.1 b.1).2 h
    refine .inl ⟨?_, .inl h⟩
    rw [e, select_pos rfl, select_pos (by rw [BitVec.or_comm]; generalize (_ &&& _ : BitVec 1) = x; revert x; decide)]
  · have e := hbit _ (fun hh => h ((ogt_iff a.1 b.1).1 hh))
    rw [e, BitVec.zero_or, select_neg (by decide)]
    by_cases h2 : a.1 = b.1
    · rw [(oeq_iff a.1 b.1).2 h2]
      by_cases h3 : a.2.toInt < b.2.toInt
      · rw [(slt_iff a.2 b.2).2 h3, select_pos (by decide)]
        exact .inl ⟨Prod.ext h2.symm rfl, .inr ⟨h2.symm, le_of_lt h3⟩⟩
      · rw [hbit _ (fun hh => h3 ((slt_iff a.2 b.2).1 hh)), select_neg (by decide)]
        exact .inr ⟨rfl, .inr ⟨h2, not_lt.1 h3⟩⟩
    · rw [hbit _ (fun hh => h2 ((oeq_iff a.1 b.1).1 hh)), BitVec.zero_and, select_neg (by decide)]
      exact .inr ⟨rfl, .inl (lt_of_le_of_ne (not_lt.1 h) h2)⟩

/-- The place of a column in a row. -/
def at_ (j : S64.Idx) (n : ℕ) (h : n < 100000) : S64x100000.Idx := fun a => match a with
  | ⟨0, _⟩ => (⟨(j 0).val, (j 0).isLt⟩ : Fin 64)
  | ⟨1, _⟩ => (⟨n, h⟩ : Fin 100000)

theorem drop_at {axes : List (Fin S64x100000.rank)} (h : S64x100000.ReducesTo axes S64) (hv : ∀ w, (h.drop w 0).val = (w 0).val)
    (j : S64.Idx) (n : ℕ) (hn : n < 100000) : h.drop (at_ j n hn) = j := by
  funext a
  apply Fin.ext
  match a with
  | ⟨0, _⟩ => exact hv (at_ j n hn)

theorem at_of_drop {axes : List (Fin S64x100000.rank)} (h : S64x100000.ReducesTo axes S64) (hv : ∀ w, (h.drop w 0).val = (w 0).val)
    (j : S64.Idx) (w : S64x100000.Idx) (hd : h.drop w = j) (hw : (w 1).val < 100000) : at_ j (w 1).val hw = w := by
  subst hd
  funext a
  apply Fin.ext
  match a with
  | ⟨0, _⟩ => exact hv w
  | ⟨1, _⟩ => rfl

/-- Folding a row's pairs of entry and column leaves the first column of the greatest entry. -/
theorem fold_first (S : ℕ → EReal) (l : List (EReal × BitVec 32)) (hin : ∀ n < 100000, (S n, BitVec.ofNat 32 n) ∈ l)
    (hout : ∀ q ∈ l, ∃ n < 100000, q = (S n, BitVec.ofNat 32 n)) (p₀ : EReal × BitVec 32) (h₀ : p₀ = (⊥, 0#32))
    (X : BitVec 32) (hX : (l.foldl (reducer_argmax_f32_i32 (F := Ideal)) p₀).2 = X) : IsFirst S X.toNat 100000 := by
  obtain ⟨hm, ho⟩ := foldl_over (reducer_argmax_f32_i32 (F := Ideal)) reducer_over l p₀
  generalize List.foldl (reducer_argmax_f32_i32 (F := Ideal)) _ _ = p at hm ho hX
  subst hX
  have hover : ∀ n (_ : n < 100000), Over p (S n, BitVec.ofNat 32 n) := fun n hn => ho _ (List.mem_cons_of_mem _ (hin n hn))
  have hp : ∃ n, n < 100000 ∧ p.2 = BitVec.ofNat 32 n ∧ p.1 = S n := by
    rcases List.mem_cons.1 hm with e | hf
    · have h0 := hover 0 (by omega)
      rw [e, h₀] at h0 ⊢
      refine ⟨0, by omega, rfl, ?_⟩
      rcases h0 with h0 | h0
      · exact absurd h0 not_lt_bot
      · exact h0.1.symm
    · obtain ⟨n, hn, e⟩ := hout p hf
      exact ⟨n, hn, by rw [e], by rw [e]⟩
  obtain ⟨n, hn, e2, e1⟩ := hp
  have ht : p.2.toNat = n := by rw [e2, BitVec.toNat_ofNat]; exact Nat.mod_eq_of_lt (by omega)
  rw [ht]
  refine ⟨hn, fun k hk => ?_, fun k hk => ?_⟩
  · rw [← e1]
    rcases hover k hk with h | h
    · exact le_of_lt h
    · exact le_of_eq h.1
  · rw [← e1]
    rcases hover k (by omega) with h | ⟨_, h⟩
    · exact h
    · exfalso
      rw [e2, First.toInt_ofNat _ (by omega), First.toInt_ofNat _ (by omega)] at h
      omega

/-- The ids as a function of the row. -/
theorem placeF_eq {F : FTy → Type} [FloatOps F] (x : FVec F S64x100000 .f32) : placeF (F := F) x = fun j =>
    (Host.argReduce reducer_argmax_f32_i32 x (iotaInDim S64x100000 32 1) (constant S_ .f32 0xFF800000#32) (constantI S_ 32 0#32)
      reducesTo_S64x100000_S64_d1 h_S_ j).2 := rfl

/-- The reference's id of a row is the first place of the row's greatest entry. -/
theorem place_first (x : FVec Ideal S64x100000 .f32) (j : S64.Idx) (S : ℕ → EReal) (hS : ∀ n (h : n < 100000), S n = x (at_ j n h)) :
    IsFirst S (placeF (F := Ideal) x j).toNat 100000 := by
  have hv : ∀ w, (reducesTo_S64x100000_S64_d1.drop w 0).val = (w 0).val := fun w =>
    Shape.ReducesTo.drop_apply_val_of_eq reducesTo_S64x100000_S64_d1 w 0 0
  have hmem := fun q => mem_fiber (α := EReal) x (iotaInDim S64x100000 32 1) reducesTo_S64x100000_S64_d1 j q
  obtain ⟨X, hX⟩ : ∃ X, placeF (F := Ideal) x j = X := ⟨_, rfl⟩
  rw [hX]
  rw [placeF_eq] at hX
  beta_reduce at hX
  rw [argReduce_fold] at hX
  generalize hl : Host.argReduceFiber (α := EReal) (β := BitVec 32) _ _ _ _ = l at hX
  rw [hl] at hmem
  refine fold_first S l (fun n hn => (hmem _).2 ⟨at_ j n hn, drop_at _ hv j n hn, ?_⟩) (fun q hq => ?_) _
    (Prod.ext (by show Ideal.ofBits .f32 0xFF800000#32 = ⊥; simp [Ideal.ofBits, Ideal.ieee]) rfl) X hX
  · rw [hS n hn]; rfl
  · obtain ⟨w, hd, e⟩ := (hmem q).1 hq
    have hw : (w 1).val < 100000 := (w 1).isLt
    refine ⟨(w 1).val, hw, ?_⟩
    rw [e, hS _ hw, at_of_drop _ hv j w hd hw]
    rfl

end Cert.Sample.Ref

end
-- ==== Proof.Sample.KPlace.lean ====
/- The kernel's ids: each row's first place of its greatest score, from the lanes' running maxima and tile marks. -/
module

public import proofs.«01_k».proof.Proof.Sample.Blocks
public import proofs.«01_k».proof.Proof.Sample.First

@[expose] public section

noncomputable section

namespace Cert.Sample.Place

open Cert.KernelIdeal Cert.KernelIdeal.Gen Cert.Sample.Loop Cert.Sample.Score Cert.Sample.Blocks Cert.Sample.First
open Idealize.ShloMosaic

/-! ## The lanes -/

theorem push_fst {F : FTy → Type} [FloatOps F] [Named F] (s : FVec F S64x1280 .f32) (w : BitVec 32) (p : Best F) (y : S64x1280.Idx) :
    (push s w p).1 y = Scalar.select (FloatOps.cmpf .ogt (s y) (p.1 y)) (s y) (p.1 y) := rfl

theorem push_snd {F : FTy → Type} [FloatOps F] [Named F] (s : FVec F S64x1280 .f32) (w : BitVec 32) (p : Best F) (y : S64x1280.Idx) :
    (push s w p).2 y = Scalar.select (FloatOps.cmpf .ogt (s y) (p.1 y)) w (p.2 y) := rfl

theorem start_fst (y : S64x1280.Idx) : (k0_pay1 (F := Ideal)) y = (⊥ : EReal) := by
  unfold k0_pay1
  rw [shapeCast_self]
  exact Noise.ofBits_ninf

theorem start_snd (y : S64x1280.Idx) : k0_pay2 y = 0#32 := by
  unfold k0_pay2
  rw [shapeCast_self]
  rfl

/-- After `n` tiles a lane holds the greatest of its scores so far and the first tile it came from; −∞ and tile 0 while every
    score is −∞. -/
theorem lane (M : ℕ → ℕ → EReal) (y : S64x1280.Idx) : ∀ n, ∃ t, (state M n).2 y = BitVec.ofNat 32 t
    ∧ (∀ g < n, scores M g y ≤ (state M n).1 y) ∧ (∀ g < t, scores M g y < (state M n).1 y)
    ∧ ((t < n ∧ (state M n).1 y = scores M t y) ∨ (t = 0 ∧ (state M n).1 y = (⊥ : EReal)))
  | 0 => ⟨0, start_snd y, fun g h => absurd h (Nat.not_lt_zero g), fun g h => absurd h (Nat.not_lt_zero g), .inr ⟨rfl, start_fst y⟩⟩
  | n + 1 => by
    obtain ⟨t, h2, hle, hlt, h1⟩ := lane M y n
    have e1 : (state M (n + 1)).1 y = Scalar.select (FloatOps.cmpf .ogt (scores M n y) ((state M n).1 y)) (scores M n y) ((state M n).1 y) :=
      push_fst (scores M n) (BitVec.ofNat 32 n) (state M n) y
    have e2 : (state M (n + 1)).2 y = Scalar.select (FloatOps.cmpf .ogt (scores M n y) ((state M n).1 y)) (BitVec.ofNat 32 n) ((state M n).2 y) :=
      push_snd (scores M n) (BitVec.ofNat 32 n) (state M n) y
    generalize hv : (state M n).1 y = v at *
    generalize hs : scores M n y = s at *
    by_cases h : v < s
    · rw [select_pos ((ogt_iff s v).2 h)] at e1 e2
      refine ⟨n, e2, fun g hg => ?_, fun g hg => ?_, .inl ⟨Nat.lt_succ_self n, e1.trans hs.symm⟩⟩
      · rw [e1]
        rcases Nat.lt_succ_iff_lt_or_eq.1 hg with hg | rfl
        · exact le_trans (hle g hg) (le_of_lt h)
        · exact le_of_eq hs
      · rw [e1]; exact lt_of_le_of_lt (hle g hg) h
    · rw [select_neg (fun hh => h ((ogt_iff s v).1 hh))] at e1 e2
      refine ⟨t, e2.trans h2, fun g hg => ?_, fun g hg => ?_, ?_⟩
      · rw [e1]
        rcases Nat.lt_succ_iff_lt_or_eq.1 hg with hg | rfl
        · exact hle g hg
        · rw [hs]; exact not_lt.1 h
      · rw [e1]; exact hlt g hg
      · rw [e1]
        rcases h1 with ⟨a, b⟩ | h1
        · exact .inl ⟨Nat.lt_succ_of_lt a, b⟩
        · exact .inr h1

/-! ## The last point's reduction -/

/-- The index each lane offers: its own where it holds the row's greatest value, past the columns elsewhere. -/
def marks {F : FTy → Type} [FloatOps F] [Named F] (a : FVec F S64x1280 .f32) (b : IVec S64x1280 32) : IVec S64x1280 32 :=
  select (cmpf .oeq a (broadcastTo S64x1280 (shapeCast S64x1 (multiReduction .maximumf [1] S64 a 0xFF800000#32 reduces_S64x1280_S64 (.inl rfl) rfl)
    shapeCasts_S64_S64x1) broadcasts_S64x1_S64x1280)) (addi (muli b (broadcast S64x1280 1280#32)) (iota .tc S64x1280 32 [1] iota_S64x1280_d1_w32))
    (broadcast S64x1280 100000#32)

theorem pay12_eq {F : FTy → Type} [FloatOps F] [Named F] (a : FVec F S64x1280 .f32) (b : IVec S64x1280 32) :
    k0_pay12 (F := F) a b = shapeCast S64x1 (multiReductionI .minsi [1] S64 (marks a b) 2147483647#32 reduces_S64x1280_S64 rfl) shapeCasts_S64_S64x1 := by
  unfold k0_pay12 marks
  rfl

/-- A row's index. -/
def row (r : ℕ) (h : r < 64) : S64.Idx := fun a => match a with
  | ⟨0, _⟩ => (⟨r, h⟩ : Fin 64)

/-- A row's index in a column of one. -/
def row1 (r : ℕ) (h : r < 64) : S64x1.Idx := fun a => match a with
  | ⟨0, _⟩ => (⟨r, h⟩ : Fin 64)
  | ⟨1, _⟩ => (⟨0, by decide⟩ : Fin 1)

/-- A lane's index. -/
def lix (r l : ℕ) (h : r < 64) (h' : l < 1280) : S64x1280.Idx := fun a => match a with
  | ⟨0, _⟩ => (⟨r, h⟩ : Fin 64)
  | ⟨1, _⟩ => (⟨l, h'⟩ : Fin 1280)

theorem cast_row {α : Type} (x : S64.Idx → α) (r : ℕ) (h : r < 64) (z : S64x1.Idx) (hz : (z 0).val = r) :
    shapeCast S64x1 x shapeCasts_S64_S64x1 z = x (row r h) := by
  refine shapeCast_apply _ _ z (row r h) ?_
  rw [Shape.rowMajor_val_two, Shape.rowMajor_val_one]
  have h1 : (z 1).val < 1 := (z 1).isLt
  show r = (z 0).val * 1 + (z 1).val
  omega

theorem drop_iff (y : S64x1280.Idx) (r : ℕ) (h : r < 64) : reduces_S64x1280_S64.drop y = row r h ↔ (y 0).val = r := by
  have e : (reduces_S64x1280_S64.drop y 0).val = (y 0).val := Shape.Reduces.drop_apply_val_of_eq reduces_S64x1280_S64 y 0 0
  constructor
  · intro hd
    rw [← e, hd]; rfl
  · intro hy
    funext a
    apply Fin.ext
    match a with
    | ⟨0, _⟩ => exact e.trans hy

theorem marks_at {F : FTy → Type} [FloatOps F] [Named F] (a : FVec F S64x1280 .f32) (b : IVec S64x1280 32) (y : S64x1280.Idx) :
    marks a b y = Scalar.select (FloatOps.cmpf .oeq (a y) (broadcastTo S64x1280 (shapeCast S64x1 (multiReduction .maximumf [1] S64 a 0xFF800000#32
      reduces_S64x1280_S64 (.inl rfl) rfl) shapeCasts_S64_S64x1) broadcasts_S64x1_S64x1280 y))
      (b y * 1280#32 + iota .tc S64x1280 32 [1] iota_S64x1280_d1_w32 y) 100000#32 := rfl

theorem iota_at (y : S64x1280.Idx) : iota .tc S64x1280 32 [1] iota_S64x1280_d1_w32 y = BitVec.ofNat 32 (y 1).val := by
  simp [iota]

/-- The reduction at a row, as a minimum over the row's lanes. -/
theorem pay12_fold {F : FTy → Type} [FloatOps F] [Named F] (a : FVec F S64x1280 .f32) (b : IVec S64x1280 32) (r : ℕ) (h : r < 64) (z : S64x1.Idx)
    (hz : (z 0).val = r) : k0_pay12 (F := F) a b z
      = (Finset.univ.filter fun y => reduces_S64x1280_S64.drop y = row r h).fold IntOp.minsi 2147483647#32 (marks a b) := by
  rw [pay12_eq, cast_row _ r h z hz]
  exact multiReductionI_eq_fold .minsi (marks a b) 2147483647#32 reduces_S64x1280_S64 rfl (row r h)

/-- The kernel's id of a row is the first place of the row's greatest score. -/
theorem ids_first (M : ℕ → ℕ → EReal) (hM : ∀ r n, 100000 ≤ n → M r n = ⊥) (z : S64x1.Idx) :
    IsFirst (fun n => M (z 0).val n + noiseAt (z 0).val n) (ids M z).toNat 100000 := by
  have hr : (z 0).val < 64 := (z 0).isLt
  generalize hz : (z 0).val = r at hr ⊢
  rw [show ids M z = _ from pay12_fold (state M 80).1 (state M 80).2 r hr z hz]
  have hmax := fold_max (Finset.univ.filter fun y => reduces_S64x1280_S64.drop y = row r hr) (state M 80).1 ⊥
  have hR : (multiReduction (F := Ideal) .maximumf [1] S64 (state M 80).1 0xFF800000#32 reduces_S64x1280_S64 (.inl rfl) rfl : S64.Idx → EReal) (row r hr)
      = (Finset.univ.filter fun y => reduces_S64x1280_S64.drop y = row r hr).fold max ⊥ (state M 80).1 := by
    refine (multiReduction_maximumf_eq_fold (F := Ideal) (state M 80).1 0xFF800000#32 reduces_S64x1280_S64 (.inl rfl) rfl (row r hr)).trans ?_
    exact congrArg (fun b : EReal => Finset.fold max b (state M 80).1 (Finset.univ.filter fun y => reduces_S64x1280_S64.drop y = row r hr)) Noise.ofBits_ninf
  generalize hRv : (Finset.univ.filter fun y => reduces_S64x1280_S64.drop y = row r hr).fold max ⊥ (state M 80).1 = R at hmax hR
  have hmark : ∀ y : S64x1280.Idx, (y 0).val = r → marks (F := Ideal) (state M 80).1 (state M 80).2 y
      = Scalar.select (FloatOps.cmpf (F := Ideal) (φ := .f32) .oeq ((state M 80).1 y) R) ((state M 80).2 y * 1280#32 + BitVec.ofNat 32 (y 1).val) 100000#32 := by
    intro y hy
    rw [marks_at, iota_at]
    have hb : broadcastTo S64x1280 (shapeCast S64x1 (multiReduction (F := Ideal) .maximumf [1] S64 (state M 80).1 0xFF800000#32
        reduces_S64x1280_S64 (.inl rfl) rfl) shapeCasts_S64_S64x1) broadcasts_S64x1_S64x1280 y = R := by
      refine (broadcastTo_apply _ _ y (row1 r hr) ?_).trans ((cast_row _ r hr (row1 r hr) rfl).trans hR)
      intro a
      match a with
      | ⟨0, _⟩ => exact hy.symm
      | ⟨1, _⟩ => rfl
    rw [hb]
  obtain ⟨hmin, hone⟩ := fold_minsi (Finset.univ.filter fun y => reduces_S64x1280_S64.drop y = row r hr)
    (marks (F := Ideal) (state M 80).1 (state M 80).2) 2147483647#32
  generalize Finset.fold IntOp.minsi _ _ _ = w at hmin hone ⊢
  generalize marks (F := Ideal) (state M 80).1 (state M 80).2 = k at hmark hmin hone
  have hmem : ∀ y : S64x1280.Idx, y ∈ (Finset.univ.filter fun y => reduces_S64x1280_S64.drop y = row r hr) ↔ (y 0).val = r := fun y => by
    rw [Finset.mem_filter]; exact ⟨fun h => (drop_iff y r hr).1 h.2, fun h => ⟨Finset.mem_univ _, (drop_iff y r hr).2 h⟩⟩
  simp only [hmem] at hmax hmin hone
  have hl : ∀ l, ∃ t, ∀ h : l < 1280, (state M 80).2 (lix r l hr h) = BitVec.ofNat 32 t ∧ t < 80
      ∧ (state M 80).1 (lix r l hr h) = M r (1280 * t + l) + noiseAt r (1280 * t + l)
      ∧ (∀ g < 80, M r (1280 * g + l) + noiseAt r (1280 * g + l) ≤ (state M 80).1 (lix r l hr h))
      ∧ ∀ g < t, M r (1280 * g + l) + noiseAt r (1280 * g + l) < (state M 80).1 (lix r l hr h) := by
    intro l
    by_cases h : l < 1280
    · obtain ⟨t, h2, hle, hlt, h1⟩ := lane M (lix r l hr h) 80
      refine ⟨t, fun _ => ⟨h2, ?_, ?_, hle, hlt⟩⟩
      · rcases h1 with h1 | h1 <;> omega
      · rcases h1 with h1 | ⟨h0, h1⟩
        · exact h1.2
        · have := hle 0 (by omega)
          rw [h1] at this
          rw [h1, h0]
          exact (le_bot_iff.1 this).symm
    · exact ⟨0, fun h' => absurd h' h⟩
  choose t ht using hl
  have hlane : ∀ y : S64x1280.Idx, (y 0).val = r → ∃ h : (y 1).val < 1280, y = lix r (y 1).val hr h := fun y hy => ⟨(y 1).isLt, by
    funext a
    apply Fin.ext
    match a with
    | ⟨0, _⟩ => exact hy
    | ⟨1, _⟩ => rfl⟩
  have hown : ∀ l (h : l < 1280), (state M 80).1 (lix r l hr h) = R → k (lix r l hr h) = BitVec.ofNat 32 (1280 * t l + l) := by
    intro l h he
    rw [hmark _ rfl, select_pos ((oeq_iff _ _).2 he), (ht l h).1]
    have := (ht l h).2.1
    apply BitVec.eq_of_toNat_eq
    show (BitVec.ofNat 32 (t l) * 1280#32 + BitVec.ofNat 32 l).toNat = _
    rw [BitVec.toNat_add, BitVec.toNat_mul]
    simp only [BitVec.toNat_ofNat]
    omega
  have hother : ∀ l (h : l < 1280), ¬(state M 80).1 (lix r l hr h) = R → k (lix r l hr h) = 100000#32 := by
    intro l h he
    rw [hmark _ rfl, select_neg (fun hh => he ((oeq_iff _ _).1 hh))]
  have hw : ∃ n, n < 2 ^ 31 ∧ w = BitVec.ofNat 32 n ∧ ((∃ l, ∃ h : l < 1280, (state M 80).1 (lix r l hr h) = R ∧ n = 1280 * t l + l) ∨ 100000 ≤ n) := by
    rcases hone with e | ⟨y, hy, e⟩
    · exact ⟨2147483647, by omega, e, .inr (by omega)⟩
    · obtain ⟨h, ey⟩ := hlane y hy
      generalize (y 1).val = l at h ey
      subst ey
      by_cases he : (state M 80).1 (lix r l hr h) = R
      · have := (ht l h).2.1
        exact ⟨1280 * t l + l, by omega, e.trans (hown l h he), .inl ⟨l, h, he, rfl⟩⟩
      · exact ⟨100000, by omega, e.trans (hother l h he), .inr le_rfl⟩
  obtain ⟨n, hn, rfl, hcase⟩ := hw
  have hnat : (BitVec.ofNat 32 n).toNat = n := by rw [BitVec.toNat_ofNat]; exact Nat.mod_eq_of_lt (by omega)
  rw [hnat]
  refine pick_first _ (fun n hn => ?_) (fun l => if h : l < 1280 then (state M 80).1 (lix r l hr h) else ⊥) t (fun l h => ?_) R (fun l h => ?_) ?_ n
    (fun l h he => ?_) ?_
  · rw [hM r n hn]; exact EReal.bot_add _
  · simp only [dif_pos h]; exact (ht l h).2
  · simp only [dif_pos h]; exact hmax.1 _ rfl
  · rcases hmax.2 with h | ⟨y, hy, he⟩
    · exact .inl h
    · obtain ⟨h, ey⟩ := hlane y hy
      refine .inr ⟨(y 1).val, h, ?_⟩
      simp only [dif_pos h]
      rw [← ey]; exact he
  · simp only [dif_pos h] at he
    have := hmin _ (show (lix r l hr h 0).val = r from rfl)
    have htl := (ht l h).2.1
    rw [hown l h he, First.toInt_ofNat _ hn, First.toInt_ofNat _ (by omega)] at this
    omega
  · rcases hcase with ⟨l, h, he, e⟩ | h
    · exact .inl ⟨l, h, by simp only [dif_pos h]; exact he, e⟩
    · exact .inr h

end Cert.Sample.Place

end
-- ==== Proof.Sample.Agree.lean ====
/- The two programs' results are the same arrays where the mask is zero on the columns between the first and the last chunk. -/
module

public import proofs.«01_k».proof.Pre_mask_is_zero_between
public import proofs.«01_k».proof.Proof.Sample.RWords
public import proofs.«01_k».proof.Proof.Sample.RefPlace
public import proofs.«01_k».proof.Proof.Sample.KPlace
public import Idealize.ShloMosaic.Lib.Pipeline.Value

@[expose] public section

noncomputable section

namespace Cert.Sample.Agree

open Cert.ReferenceIdeal Cert.ReferenceIdeal.Gen Cert.Sample.First Cert.Sample.Ref Cert.Sample.Blocks Cert.Sample.Score
open Idealize.ShloMosaic

/-- The precondition's shape relations. -/
theorem facts : Cert.Pre_mask_is_zero_between.Facts where
  slices_S100000_S76800_12800 := by decide
  bcast_S_S76800 := by decide

/-- The precondition at one of its columns, operation by operation. -/
theorem pre_at {F : FTy → Type} [FloatOps F] [Cert.Pre_mask_is_zero_between.Facts] (x : FVec F S64x100000 .f32)
    (k : FVec F S100000 .f32) (z : Cert.Pre_mask_is_zero_between.S76800.Idx) :
    Cert.Pre_mask_is_zero_between.fn x k z
      = FloatOps.cmpf .oeq (extractStridedSlice Cert.Pre_mask_is_zero_between.S76800 ![12800] k
          Cert.Pre_mask_is_zero_between.Facts.slices_S100000_S76800_12800 z) (FloatOps.ofBits .f32 0x00000000#32) := rfl

/-- The precondition says what its name says: the mask is zero on the columns of the middle chunks. -/
theorem mask_zero [Cert.Pre_mask_is_zero_between.Facts] (x : FVec Ideal S64x100000 .f32) (k : FVec Ideal S100000 .f32)
    (h : Cert.Pre_mask_is_zero_between.fn (F := Ideal) x k = fun _ => 1#1) (n : ℕ) (h1 : 12800 ≤ n) (h2 : n < 89600) (h3 : n < 100000) :
    k (ix1 n h3) = (0 : EReal) := by
  let z : Cert.Pre_mask_is_zero_between.S76800.Idx := fun a => match a with
    | ⟨0, _⟩ => (⟨n - 12800, by omega⟩ : Fin 76800)
  have e := congrFun h z
  rw [pre_at, oeq_iff, extractStridedSlice_apply _ _ _ z (ix1 n h3) (fun a => by
    match a with
    | ⟨0, _⟩ => show n = 12800 + (n - 12800); omega)] at e
  exact e.trans Ideal.ofBits_zero_f32

/-- The reference's masked logit, operation by operation. -/
theorem maskedF_at {F : FTy → Type} [FloatOps F] (x : FVec F S64x100000 .f32) (k : FVec F S100000 .f32) (j : S64x100000.Idx) :
    maskedF x k j = FloatOps.addf (FloatOps.hostDivf (x j) (FloatOps.ofBits .f32 0x3F800000#32))
      (broadcastInDim S64x100000 ![0, 1] bcast_S1x100000_S64x100000_0_1 (broadcastInDim S1x100000 ![1] bcast_S100000_S1x100000_1 k) j) := rfl

/-- The mask spread over the rows reads its column. -/
theorem spread_at {α : Type} (k : S100000.Idx → α) (j : S64x100000.Idx) :
    broadcastInDim S64x100000 ![0, 1] bcast_S1x100000_S64x100000_0_1 (broadcastInDim S1x100000 ![1] bcast_S100000_S1x100000_1 k) j
      = k (ix1 (j 1).val (j 1).isLt) := by
  let w : S1x100000.Idx := fun a => match a with
    | ⟨0, _⟩ => (⟨0, by decide⟩ : Fin 1)
    | ⟨1, _⟩ => (⟨(j 1).val, (j 1).isLt⟩ : Fin 100000)
  refine (broadcastInDim_apply _ _ _ j w fun a => ?_).trans (broadcastInDim_apply _ _ _ w _ fun a => ?_)
  · match a with
    | ⟨0, _⟩ => rfl
    | ⟨1, _⟩ => rfl
  · match a with
    | ⟨0, _⟩ => rfl

/-- The reference's masked logit is the logit plus the mask of its column. -/
theorem maskedF_apply (x : FVec Ideal S64x100000 .f32) (k : FVec Ideal S100000 .f32) (j : S64x100000.Idx) :
    maskedF (F := Ideal) x k j = (x j + k (ix1 (j 1).val (j 1).isLt) : EReal) := by
  rw [maskedF_at, spread_at, Ideal.addf_def, Ideal.hostDivf_def, Ideal.ofBits_def, Noise.ofBits_one]
  rw [show (1 : EReal) = ((1 : ℝ) : EReal) from rfl, Ideal.div_coe one_ne_zero]
  simp

theorem ix_eq (j : S64x100000.Idx) : ix (j 0).val (j 1).val (j 0).isLt (j 1).isLt = j := by
  funext a
  match a with
  | ⟨0, _⟩ => rfl
  | ⟨1, _⟩ => rfl

/-- Where the mask is zero on the middle chunks, the reference's masked logits are the kernel's. -/
theorem masked_eq (x : FVec Ideal S64x100000 .f32) (k : FVec Ideal S100000 .f32)
    (hk : ∀ n (_ : 12800 ≤ n) (_ : n < 89600) (h3 : n < 100000), k (ix1 n h3) = (0 : EReal)) (j : S64x100000.Idx) :
    masked x k (j 0).val (j 1).val = maskedF (F := Ideal) x k j := by
  have h0 : (j 0).val < 64 := (j 0).isLt
  have h1 : (j 1).val < 100000 := (j 1).isLt
  rw [maskedF_apply]
  unfold masked
  rw [dif_pos ⟨h0, h1⟩, ix_eq]
  by_cases h : (j 1).val < 12800 ∨ 89600 ≤ (j 1).val
  · rw [if_pos h]
  · rw [if_neg h, hk (j 1).val (by omega) (by omega) h1, add_zero]

/-- The reference's score, operation by operation. -/
theorem score_at {F : FTy → Type} [FloatOps F] (a b : FVec F S64x100000 .f32) (j : S64x100000.Idx) :
    addf a b j = FloatOps.addf (a j) (b j) := rfl

/-- And then the sampled ids are: each row has one first place of its greatest score. -/
theorem ids_eq (x : FVec Ideal S64x100000 .f32) (k : FVec Ideal S100000 .f32)
    (hk : ∀ n (_ : 12800 ≤ n) (_ : n < 89600) (h3 : n < 100000), k (ix1 n h3) = (0 : EReal)) (j : S64.Idx) (z : Cert.KernelIdeal.S64x1.Idx)
    (hz : (z 0).val = (j 0).val) :
    ids (masked x k) z = placeF (F := Ideal) (addf (maskedF (F := Ideal) x k) (gumbelF (F := Ideal))) j := by
  have hM : ∀ r n, 100000 ≤ n → masked x k r n = ⊥ := fun r n hn => dif_neg fun h => by omega
  have hS : ∀ n (h : n < 100000), masked x k (z 0).val n + noiseAt (z 0).val n
      = addf (maskedF (F := Ideal) x k) (gumbelF (F := Ideal)) (at_ j n h) := fun n h => by
    rw [score_at, ← masked_eq x k hk, gumbelF_apply, Ideal.addf_def, hz]
    rfl
  exact BitVec.eq_of_toNat_eq ((Place.ids_first (masked x k) hM z).unique (place_first _ j _ hS))

/-- A column read as a vector. -/
theorem cast_back {α : Type} (x : Cert.KernelIdeal.S64x1.Idx → α) (j : S64.Idx) :
    shapeCast Cert.KernelIdeal.S64 x Cert.KernelIdeal.Gen.shapeCasts_S64x1_S64 j = x (Place.row1 (j 0).val (j 0).isLt) := by
  refine shapeCast_apply _ _ j _ ?_
  rw [Shape.rowMajor_val_two, Shape.rowMajor_val_one]
  show (j 0).val * 1 + 0 = (j 0).val
  omega

end Cert.Sample.Agree

end
-- ==== Proof.lean ====
/- The assembly: each claim from the module that proves it. -/
module

public import proofs.«01_k».proof.Defs
public import proofs.«01_k».proof.Proof.Sample.Frame
public import proofs.«01_k».proof.Proof.Sample.Launch
public import proofs.«01_k».proof.Proof.Sample.RefRun
public import proofs.«01_k».proof.Proof.Sample.Agree

@[expose] public section

noncomputable section

namespace Cert.Proof

open Idealize.ShloMosaic Idealize.SL.Sem

/-- The compiled kernel leaves its arguments and its counters as they were. -/
theorem frame_kernel : quiescent_Kernel := fun m g _ => Cert.Sample.Bare.run m g

/-- So does its idealization. -/
theorem frame_ideal : quiescent_KernelIdeal := fun m g _ =>
  (θ_run _ _ _).mono (fun _ h => ⟨fun c => (h.1 c).2.2, h.2⟩) (Cert.Sample.Value.run m g)

/-- And the reference. -/
theorem frame_reference : quiescent_ReferenceIdeal := fun m g _ =>
  (θ_run _ _ _).mono (fun _ h => ⟨fun c => (h.1 c).2.2, h.2⟩) (Cert.Sample.Ref.run m g)

/-- The two named literals are the rounded values of their names. -/
theorem named : preserves_Kernel_KernelIdeal :=
  ⟨IdealRules.named_const.statement Cert.KernelIdeal.κ "inv_ln2" .f32 0x3FB8AA3B#32 _ rfl,
    IdealRules.named_const.statement Cert.KernelIdeal.κ "nln2" .f32 0xBF317218#32 _ rfl⟩

/-- The kernel and the reference end with the same sampled ids and the same masked logits, where the mask is zero on the
    columns between the first and the last chunk. -/
theorem same (hPre : Cert.Pre_mask_is_zero_between.Facts) :
    algebraic_KernelIdeal_ReferenceIdeal_pre_mask_is_zero_between (hPre_mask_is_zero_between := hPre) := by
  intro m g m' g' hp hm
  have hk := fun c => Cert.Sample.Agree.mask_zero _ _ (hp c)
  refine ⟨Cert.Sample.Value.idsArr m, Cert.Sample.Value.maskedArr m,
    (θ_run _ _ _).mono (fun _ h => h.1) (Cert.Sample.Value.run m g), (θ_run _ _ _).mono (fun r h c => ?_) (Cert.Sample.Ref.run m' g')⟩
  obtain ⟨e0, e1, e2, e3⟩ := h.1 c
  refine ⟨e0.trans ?_, e1.trans ?_, e2, e3⟩
  · rw [(hm c).1, (hm c).2]
    funext j
    refine ((Cert.Sample.Agree.ids_eq _ _ (hk c) j (Cert.Sample.Place.row1 (j 0).val (j 0).isLt) rfl).symm).trans ?_
    exact (Cert.Sample.Agree.cast_back _ j).symm
  · rw [(hm c).1, (hm c).2]
    exact funext fun j => (Cert.Sample.Agree.masked_eq _ _ (hk c) j).symm

/-- Everything claimed. -/
theorem claim : Cert.Claim :=
  ⟨Cert.Kernel.Gen.facts, Cert.KernelIdeal.Gen.facts, Cert.ReferenceIdeal.Gen.facts, Cert.Sample.Agree.facts,
    frame_kernel, frame_ideal, fun m g _ => frame_ideal m g trivial, frame_reference, fun m g _ => frame_reference m g trivial,
    named, same _⟩

end Cert.Proof

end
